-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_range_finite.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x100000 .f32 := Host.absf main_arg0
  let main_cst : FVec F S_ .f32 := constant S_ .f32 0x7F800000#32
  let main_v7 : FVec F S1024x100000 .f32 := broadcastInDim S1024x100000 ![] bcast_S_S1024x100000 main_cst
  let main_v8 : IVec S1024x100000 1 := cmpf .olt main_v6 main_v7
  let main_c_2 : IVec S_ 1 := constantI S_ 1 1#1
  let main_v9 : IVec S_ 1 := (fun x v => Host.reduce IntOp.andi x v reducesTo_S1024x100000_S_d0_1 h_S_) main_v8 main_c_2
  let main_v10 : IVec S_ 1 := andi main_v5 main_v9
  main_v10
-- ==== Kernel.lean ====
abbrev S1024x100000 : Shape := ⟨2, ![1024, 100000]⟩
abbrev S1024 : Shape := ⟨1, ![1024]⟩
abbrev S102400000 : Shape := ⟨1, ![102400000]⟩
abbrev S32x3x16 : Shape := ⟨3, ![32, 3, 16]⟩
abbrev S32 : Shape := ⟨1, ![32]⟩
abbrev S3x16 : Shape := ⟨2, ![3, 16]⟩
abbrev S_ : Shape := ⟨0, ![]⟩
abbrev S16 : Shape := ⟨1, ![16]⟩
abbrev S1x16 : Shape := ⟨2, ![1, 16]⟩
abbrev S1x3x16 : Shape := ⟨3, ![1, 3, 16]⟩
abbrev S32x1x16 : Shape := ⟨3, ![32, 1, 16]⟩
abbrev S32x16 : Shape := ⟨2, ![32, 16]⟩
abbrev S8000x12800 : Shape := ⟨2, ![8000, 12800]⟩
abbrev S1x1 : Shape := ⟨2, ![1, 1]⟩
abbrev S160x12800 : Shape := ⟨2, ![160, 12800]⟩
abbrev S1x160x12800 : Shape := ⟨3, ![1, 160, 12800]⟩
abbrev S1 : Shape := ⟨1, ![1]⟩
abbrev S1x1x1 : Shape := ⟨3, ![1, 1, 1]⟩

abbrev nBuf : Table → Nat
  | .hbm => 42
  | .local .tc .vmem => 3
  | .local .scVector .vmem => 6
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S102400000, .f32⟩
  | .hbm, ⟨3, _⟩ => ⟨S32x3x16, .f32⟩
  | .hbm, ⟨4, _⟩ => ⟨S32x1x16, .f32⟩
  | .hbm, ⟨5, _⟩ => ⟨S32x16, .f32⟩
  | .hbm, ⟨6, _⟩ => ⟨S_, .f32⟩
  | .hbm, ⟨7, _⟩ => ⟨S_, .f32⟩
  | .hbm, ⟨8, _⟩ => ⟨S32x1x16, .f32⟩
  | .hbm, ⟨9, _⟩ => ⟨S32x16, .f32⟩
  | .hbm, ⟨10, _⟩ => ⟨S_, .f32⟩
  | .hbm, ⟨11, _⟩ => ⟨S_, .f32⟩
  | .hbm, ⟨12, _⟩ => ⟨S32x1x16, .f32⟩
  | .hbm, ⟨13, _⟩ => ⟨S32x16, .f32⟩
  | .hbm, ⟨14, _⟩ => ⟨S_, .f32⟩
  | .hbm, ⟨15, _⟩ => ⟨S_, .f32⟩
  | .hbm, ⟨16, _⟩ => ⟨S8000x12800, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local .tc .vmem, ⟨0, _⟩ => ⟨S160x12800, .f32⟩
  | .local .tc .vmem, ⟨1, _⟩ => ⟨S160x12800, .f32⟩
  | .local .tc .vmem, ⟨2, _⟩ => ⟨S1x1, .f32⟩
  | .local .scVector .vmem, ⟨0, _⟩ => ⟨S32, .i32⟩
  | .local .scVector .vmem, ⟨1, _⟩ => ⟨S32, .i32⟩
  | .local .scVector .vmem, ⟨2, _⟩ => ⟨S32, .i32⟩
  | .local .scVector .vmem, ⟨3, _⟩ => ⟨S32, .f32⟩
  | .local .scVector .vmem, ⟨4, _⟩ => ⟨S32, .f32⟩
  | .local .scVector .vmem, ⟨5, _⟩ => ⟨S3x16, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_cst_9 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 3
abbrev cc1_sem0_1 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_33_r1 : BitVec 32 := 0#32
  let c0_i32_34_r1 : BitVec 32 := 0#32
  ![v1.toNat, 0, 0]
abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S160x12800 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024 : Shape := ⟨1, ![1024]⟩
abbrev S_ : Shape := ⟨0, ![]⟩
abbrev S100000 : Shape := ⟨1, ![100000]⟩
abbrev S1 : Shape := ⟨1, ![1]⟩
abbrev S1x100000 : Shape := ⟨2, ![1, 100000]⟩
abbrev S1x1x1x100000 : Shape := ⟨4, ![1, 1, 1, 100000]⟩
abbrev S1024x1x1x100000 : Shape := ⟨4, ![1024, 1, 1, 100000]⟩
abbrev S1024x1 : Shape := ⟨2, ![1024, 1]⟩
abbrev S1024x2 : Shape := ⟨2, ![1024, 2]⟩

abbrev nBuf : Space → Nat
  | .hbm => 62
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S100000, .f32⟩
  | .hbm, ⟨4, _⟩ => ⟨S_, .i32⟩
  | .hbm, ⟨5, _⟩ => ⟨S1, .i32⟩
  | .hbm, ⟨6, _⟩ => ⟨S_, .f32⟩
  | .hbm, ⟨7, _⟩ => ⟨S100000, .f32⟩
  | .hbm, ⟨8, _⟩ => ⟨S1x100000, .f32⟩
  | .hbm, ⟨9, _⟩ => ⟨S1x1x1x100000, .f32⟩
  | .hbm, ⟨10, _⟩ => ⟨S1024x1x1x100000, .f32⟩
  | .hbm, ⟨11, _⟩ => ⟨S1024x100000, .f32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024x1, .i32⟩
  | .hbm, ⟨29, _⟩ => ⟨S1024x2, .i32⟩
  | .hbm, ⟨30, _⟩ => ⟨S_, .f32⟩
  | .hbm, ⟨31, _⟩ => ⟨S1024, .f32⟩
  | .hbm, ⟨32, _⟩ => ⟨S1024x100000, .f32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024x1, .i1⟩
  | .hbm, ⟨37, _⟩ => ⟨S_, .f32⟩
  | .hbm, ⟨38, _⟩ => ⟨S_, .f32⟩
  | .hbm, ⟨39, _⟩ => ⟨S1024x100000, .i1⟩
  | .hbm, ⟨40, _⟩ => ⟨S1024x100000, .f32⟩
  | .hbm, ⟨41, _⟩ => ⟨S1024x100000, .f32⟩
  | .hbm, ⟨42, _⟩ => ⟨S_, .f32⟩
  | .hbm, ⟨43, _⟩ => ⟨S1024x100000, .f32⟩
  | .hbm, ⟨44, _⟩ => ⟨S1024x100000, .i1⟩
  | .hbm, ⟨45, _⟩ => ⟨S_, .f32⟩
  | .hbm, ⟨46, _⟩ => ⟨S1024x100000, .f32⟩
  | .hbm, ⟨47, _⟩ => ⟨S1024x100000, .i1⟩
  | .hbm, ⟨48, _⟩ => ⟨S_, .f32⟩
  | .hbm, ⟨49, _⟩ => ⟨S_, .f32⟩
  | .hbm, ⟨50, _⟩ => ⟨S1024x100000, .f32⟩
  | .hbm, ⟨51, _⟩ => ⟨S1024x100000, .f32⟩
  | .hbm, ⟨52, _⟩ => ⟨S1024x100000, .f32⟩
  | .hbm, ⟨53, _⟩ => ⟨S1024x100000, .f32⟩
  | .hbm, ⟨54, _⟩ => ⟨S_, .f32⟩
  | .hbm, ⟨55, _⟩ => ⟨S_, .f32⟩
  | .hbm, ⟨56, _⟩ => ⟨S1024x100000, .f32⟩
  | .hbm, ⟨57, _⟩ => ⟨S1024x100000, .f32⟩
  | .hbm, ⟨58, _⟩ => ⟨S1024x100000, .f32⟩
  | .hbm, ⟨59, _⟩ => ⟨S1024x100000, .f32⟩
  | .hbm, ⟨60, _⟩ => ⟨S_, .f32⟩
  | .hbm, ⟨61, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Proof.Setup.lean ====
/-
  The program as the launch theorem sees it: the configuration of the SparseCore call, its side facts, the resource
  algebra, the names of the buffers and of the memrefs a tile's body is run on, and the shares in which the big table
  is lent to the 32 tiles.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionArraysS
public import Idealize.ShloMosaic.Lib.Pipeline.FrameBody
public import Idealize.ShloMosaic.Lib.Batch
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The configuration -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side facts of the launch: the four handshake semaphores are distinct and outlive the call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

abbrev MM (F : FTy → Type) : Type := MT nD τ sig (HIx 1) (Elt F) ℕ UU ℕ
abbrev EH : Emb UH (MM F) := embL
/-- The pipeline's component: the left of the right half. -/
abbrev EP : Emb UP (MM F) := (Emb.inl : Emb UP (UP × Counters)).trans (embR (A := UH) (B := UP × Counters))

/-! ## The buffers -/

abbrev xLoc (d : Dev nD) : Loc nD τ sig := (SparseCore.T d).loc main_arg0
abbrev tLoc (d : Dev nD) : Loc nD τ sig := (SparseCore.T d).loc main_arg1
/-- The table as one row of words. -/
abbrev fLoc (d : Dev nD) : Loc nD τ sig := (SparseCore.T d).loc main_v0
/-- What the tiles write: three rows of sixteen per tile. -/
abbrev oLoc (d : Dev nD) : Loc nD τ sig := (SparseCore.T d).loc main_v1

/-- Tile `(c, s)` works on the 32 rows from `32 w`, `w = 2 s + c`. -/
def wid (L : grid0.Coords) : Fin 32 := ⟨2 * (L 1).val + (L 0).val, by
  have h0 : (L 0).val < 2 := (L 0).isLt
  have h1 : (L 1).val < 16 := (L 1).isLt
  omega⟩

/-- A tile's share of what all tiles read. -/
abbrev leafq (L : grid0.Coords) : PosShare TreeShare := ShareLeaves.leaf 5 fullShare (wid L)

end Cert.Proof.K

end
-- ==== Proof.Region.lean ====
/-
  The TensorCore's sum of the whole table: fifty blocks of 160 rows, each added to the one number kept in the result's
  staging buffer. The body's run, what it leaves after each block, and the call as a step of @main.
-/
module

public import proofs.«01_k».proof.Proof.Setup
public import Idealize.ShloMosaic.Lib.Writes
public import Idealize.ShloMosaic.Lib.Pipeline.Value
public import Idealize.ShloMosaic.Lib.Pipeline.FrameTail
public import Idealize.ShloMosaic.Lib.Pipeline.RegionArraysS

@[expose] public section

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MM F

/-! ## The body's run -/

/-- What the body leaves in the result's staging buffer: the block's sum added to what is there, to zero at the first. -/
def step (i : grid1.Coords) (y : Vec F S1x1 .f32) (x : Vec F S160x12800 .f32) : Vec F S1x1 .f32 :=
  if (i 0).val = 0 then k1_pay2 (F := F) (k1_pay1 (F := F)) x else k1_pay2 (F := F) y x

theorem zero2 : (![0, 0] : Fin 2 → Nat) = fun _ => 0 := funext fun a => by fin_cases a <;> rfl

/-- The body's test is of the first block. -/
theorem first_iff (i : grid1.Coords) :
    (Scalar.cmpi .ne (Scalar.extui (Scalar.cmpi .eq (BitVec.ofNat 32 (i 0).val) 0#32) : BitVec 32) 0#32 = 1#1) ↔ (i 0).val = 0 := by
  have h : (i 0).val < 50 := (i 0).isLt
  generalize (i 0).val = n at h
  interval_cases n <;> decide

/-- What the last whole write leaves, and what a whole read gives. -/
theorem read_last (M : Memref sig .tc .vmem S1x1 .f32) (f : M.view.ty.Contents (Elt F)) (w : S1x1.Idx → F .f32) (L : List (View.Piece (Elt F) S1x1 .f32)) :
    M.view.read (Elt F) (M.view.writes (Elt F) f (⟨Rect.unit (s := S1x1) ![0, 0] S1x1.size inb_S1x1_S1x1_0_0, w⟩ :: L)) = w :=
  funext fun y => View.read_writes_cons_hit_of_coords _ _ (Rect.unit (s := S1x1) ![0, 0] S1x1.size inb_S1x1_S1x1_0_0) _ _ y y
    (fun a => by match a with | 0 => exact ((Nat.zero_add _).trans (Nat.one_mul _)).symm | 1 => exact ((Nat.zero_add _).trans (Nat.one_mul _)).symm)
theorem readAt_one (M : Memref sig .tc .vmem S1x1 .f32) (f : M.view.ty.Contents (Elt F)) :
    View.readAt (Elt F) M.view (Rect.unit (s := S1x1) ![0, 0] S1x1.size inb_S1x1_S1x1_0_0).toLoadRect f = M.view.read (Elt F) f :=
  (View.readAt_eq_ld ..).trans (View.ld_unit_zero (S := S1x1) zero2 ..)
theorem readAt_block (M : Memref sig .tc .vmem S160x12800 .f32) (f : M.view.ty.Contents (Elt F)) :
    View.readAt (Elt F) M.view (Rect.unit (s := S160x12800) ![0, 0] S160x12800.size inb_S160x12800_S160x12800_0_0).toLoadRect f = M.view.read (Elt F) f :=
  (View.readAt_eq_ld ..).trans (View.ld_unit_zero (S := S160x12800) zero2 ..)

abbrev ownS (c : Dev nD) {S : Shape} (M : Memref sig .tc .vmem S .f32) (x : Vec F S .f32) : sProp 𝕄 := owns (c : Thread nD τ) M fullShare x

theorem body_run (c : Dev nD) (i : grid1.Coords) (M0 : Memref sig .tc .vmem S160x12800 .f32) (h0 : M0.IsWhole)
    (M1 : Memref sig .tc .vmem S1x1 .f32) (h1 : M1.IsWhole) (x : Vec F S160x12800 .f32) (y : Vec F S1x1 .f32) (E : Set ℕ) (Q : PUnit → sProp 𝕄) :
    iprop(ownS c M0 x ∗ ownS c M1 y ∗ (iprop(ownS c M0 x ∗ ownS c M1 (step i y x)) -∗ Q ⟨⟩))
      ⊢ wp frame (wpE (defs₀ (F := F)) 𝒱₀ (c : Thread nD τ) none) E (cc1__tc_sum_body i M0 h0 M1 h1) Q := by
  unfold ownS owns
  rw [h0.set_eq_univ, h1.set_eq_univ]
  rw [cc1__tc_sum_body_eq_skeleton]
  unfold cc1__tc_sum_body_skel
  iintro ⟨⟨%f0, %hf0, H0⟩, ⟨%f1, %hf1, H1⟩, Hk⟩
  subst hf0 hf1
  by_cases hi : (i 0).val = 0
  · have hc := (first_iff i).mpr hi
    simp only [hc, dite_true]
    sl_exec
    sl_step
    iapply Hk
    isplitl [H0]
    · iexists f0; isplitr; · ipureintro; rfl
      iexact H0
    iexists _; isplitr; swap; (· iexact H1)
    ipureintro
    unfold step
    sl_unfold_words
    rw [if_pos hi]
    refine (read_last M1 f1 _ _).trans ?_
    rw [readAt_block]
    exact congrArg (fun z => k1_pay2 (F := F) z (M0.view.read (Elt F) f0)) (View.readCov_unit_zero (S := S1x1) _ zero2 ..)
  · have hc := fun h => hi ((first_iff i).mp h)
    simp only [hc, dite_false]
    sl_exec
    sl_step
    iapply Hk
    isplitl [H0]
    · iexists f0; isplitr; · ipureintro; rfl
      iexact H0
    iexists _; isplitr; swap; (· iexact H1)
    ipureintro
    unfold step
    rw [if_neg hi, readAt_block, readAt_one]
    exact read_last M1 f1 _ _

/-! ## The proof data -/

variable (W : Dev nD → Valuation τ sig (Elt F))

/-- The block of the table the body finds at point `t`. -/
abbrev blkV (c : Dev nD) (t : Fin cfg1.N) : Vec F S160x12800 .f32 := (win1_0.blk t).view.read (Elt F) (W c (Proc.devRef .tc main_v11))

/-- The running sum after each block. -/
def acc (c : Dev nD) : (n : ℕ) → n < cfg1.N → Vec F S1x1 .f32
  | 0, h => step (grid1.coords ⟨0, h⟩) (k1_pay1 (F := F)) (blkV W c ⟨0, h⟩)
  | n + 1, h => step (grid1.coords ⟨n + 1, h⟩) (acc c n (Nat.lt_of_succ_lt h)) (blkV W c ⟨n + 1, h⟩)

abbrev Φc (c : Dev nD) : sProp 𝕄 := Pipeline.scopedRest (Ix := HIx 1) (Name := ℕ) (U := UU) (Lvl := ℕ) (Val := Elt F) spec1 c

/-- The waits the core may have recorded: none above the first call's. -/
def recd (c : Dev nD) : Set (SemLoc sig × HIx 1) := {p | (K (F := F)).lev (SparseCore.T c, p.1) p.2 ≤ 8}

def dat (c : Dev nD) : Dat τ (Elt F) (HIx 1) ℕ UU ℕ cfg1 c where
  A w := W c (Proc.devRef .tc (Pipeline.arrRef spec1 w))
  after w t := match w with
    | ⟨0, _⟩ => blkV W c t
    | ⟨1, _⟩ => acc W c t.val t.isLt
  Φ _ := Φc c
  q _ := fullShare
  owed _ := 0
  recorded _ := recd (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c := fun _ c => dat W c

theorem coords_val : ∀ t : Fin grid1.N, ((grid1.coords t) 0).val = t.val := by decide

theorem before_in (c : Dev nD) (t : Fin cfg1.N) (d) : (dat W c).before 0 t d = blkV W c t := by
  rw [(dat W c).before_fetched 0 t (fetch1_0 t) d]; rfl

theorem acc_eq (c : Dev nD) (t : Fin cfg1.N) (d) : acc W c t.val t.isLt = step (grid1.coords t) ((dat W c).before 1 t d) (blkV W c t) := by
  obtain ⟨n, hn⟩ := t
  cases n with
  | zero =>
    show step _ _ _ = step _ _ _
    unfold step
    rw [if_pos (coords_val ⟨0, hn⟩), if_pos (coords_val ⟨0, hn⟩)]
  | succ n =>
    have h50 : cfg1.N = 50 := N_1
    have hfl : (cfg1.win 1).flush ⟨n, Nat.lt_of_succ_lt hn⟩ = false := by
      cases h : (cfg1.win 1).flush ⟨n, Nat.lt_of_succ_lt hn⟩ with
      | false => rfl
      | true => have := (flush1_1 ⟨n, Nat.lt_of_succ_lt hn⟩).mp h; dsimp only at this; omega
    rw [(dat W c).before_out_kept 1 rfl ⟨n + 1, hn⟩ (Nat.succ_ne_zero n) hfl (fun _ => rfl) (fun _ _ => rfl) d]
    rfl

theorem body_obligation (c : Dev nD) : BodyObligation (dat W c) (defs₀ (F := F)) 𝒱₀ none Set.univ := fun t => by
  rw [bigSep_W1, bigSep_W1]
  rw [show (dat W c).Φ t.castSucc = Φc c from rfl, show (dat W c).Φ t.succ = Φc c from rfl,
    show (dat W c).owesAt none t.succ = (dat W c).owesAt none t.castSucc from rfl]
  iintro ⟨HΦ, Howes, ⟨%d0, H0⟩, ⟨%d1, H1⟩⟩
  rw [before_in]
  iapply (body_run c (grid1.coords t) (win1_0.stage (cfg1.slots t 0)) (hstage1_0 ((cfg1.slots t 0).cast nbuf1_0)) (win1_1.stage (cfg1.slots t 1))
    (hstage1_1 ((cfg1.slots t 1).cast nbuf1_1)) (blkV W c t) ((dat W c).before 1 t d1) Set.univ _)
  isplitl [H0]; · iexact H0
  isplitl [H1]; · iexact H1
  rw [← acc_eq]
  iintro ⟨H0, H1⟩
  isplitl [HΦ]; · iexact HΦ
  isplitl [Howes]; · iexact Howes
  isplitl [H0]; · iexact H0
  iexact H1

/-! ## The region's record -/

/-- The valuation after the region. -/
abbrev afterR (c : Dev nD) : Valuation τ sig (Elt F) := Pipeline.afterRegion (dat W c) (W c)

theorem arr_unscoped : ∀ w : Fin 2, (Pipeline.arrRef spec1 w).isScoped = false := by decide

theorem uc_sub : Pipeline.arrRefs (τ := τ) (pcfgs (F := F) 0).spec ⊆ Pipeline.ucRefs τ sig :=
  Pipeline.arrRefs_sub_ucRefs spec1 arr_unscoped

abbrev owesB (c : Dev nD) : sProp 𝕄 := iprop(∃ Wd, ⌜(K (F := F)).WBelow (SparseCore.T c) Wd 8⌝ ∗ owes (SparseCore.T c) 0 Wd)

theorem share_full (c : Dev nD) (w) : (pdats W 0 c).share w = fullShare := by
  show (dat W c).share w = fullShare
  unfold Dat.share
  split <;> rfl

set_option backward.isDefEq.respectTransparency.types false in
def seg : Pipeline.RegionSeg (pcfgs (F := F)) adm (pdats W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ _ fun _ _ => rfl
  pre c := iprop(StableHlo.held (c.tc : Thread nD τ) (Pipeline.ucRefs τ sig) (W c) ∗ owesB c)
  post c := iprop(StableHlo.held (c.tc : Thread nD τ) (Pipeline.ucRefs τ sig) (afterR W c) ∗ owesB c)
  X _ := iprop(emp)
  Y _ := iprop(emp)
  Z c := StableHlo.held (c.tc : Thread nD τ) (Pipeline.ucRefs τ sig \ Pipeline.arrRefs (pcfgs (F := F) 0).spec) (W c)
  hentry c := by
    rw [Pipeline.arrays_held (pcfgs (F := F)) adm (pdats W) 0 launch1.toP c (share_full W c) ((pdats W 0 c).arrAt · 0) (W c) (fun _ => rfl), StableHlo.held_sub_split _ (uc_sub (F := F)), Pipeline.ownSems0_none]
    iintro ⟨⟨⟨Ha, Hr⟩, ⟨%Wd, %hW, HO⟩⟩, -, -⟩
    imodintro
    isplitl [Ha]; · iexact Ha
    isplitr; · (unfold Pipeline.prefHeld; rw [show (Finset.univ : Finset (Fin 0)) = ∅ from rfl, BI.bigSep_empty]; iempintro)
    isplitl [HO]
    · unfold Pipeline.Dat.owesAt Pipeline.owesWithin
      iexists Wd
      isplitr; · ipureintro; exact fun p hp => Or.inl (hW p hp)
      iexact HO
    isplitr; · iempintro
    iexact Hr
  hin c := by
    show _ ⊢ Φc c
    iintro ⟨-, -, Hr⟩; iexact Hr
  hout c := by
    show Φc c ⊢ _
    rw [Pipeline.ownSems0_none]
    iintro Hr
    isplitr; · iempintro
    isplitr; · iempintro
    iexact Hr
  hexit c := by
    rw [Pipeline.arrays_held (pcfgs (F := F)) adm (pdats W) 0 launch1.toP c (share_full W c) ((pdats W 0 c).arrAt · (Pipeline.pin (pcfgs (F := F)) adm 0).N) (afterR W c)
      (fun w => (Pipeline.afterRegion_arr (dat W c) (W c) launch1.win.arr_inj w).symm), StableHlo.held_sub_split _ (uc_sub (F := F)),
      ← StableHlo.held_congr (c.tc : Thread nD τ) (S := Pipeline.ucRefs τ sig \ Pipeline.arrRefs (pcfgs (F := F) 0).spec)
        (V := W c) (V' := afterR W c) fun b hb => (Pipeline.afterRegion_off (dat W c) (W c) _ b hb).symm]
    iintro ⟨Ha, HO, -, Hr⟩
    unfold Pipeline.Dat.owesAt Pipeline.owesWithin
    icases HO with ⟨%Wd, %hW, HO⟩
    imodintro
    isplitl [Ha Hr]
    · isplitl [Ha]; · iexact Ha
      iexact Hr
    iexists Wd
    isplitr
    · ipureintro
      intro p hp
      rcases hW hp with h | ⟨w, s, rfl⟩
      · exact h
      · exact Nat.zero_le _
    iexact HO

theorem seg_pre (c : Dev nD) : (seg W).pre c = iprop(StableHlo.held (c.tc : Thread nD τ) (Pipeline.ucRefs τ sig) (W c) ∗ owesB c) := rfl
theorem seg_post (c : Dev nD) : (seg W).post c = iprop(StableHlo.held (c.tc : Thread nD τ) (Pipeline.ucRefs τ sig) (afterR W c) ∗ owesB c) := rfl

/-! ## What the region leaves -/

theorem arr_inj : Function.Injective (Pipeline.arrRef spec1) := launch1.win.arr_inj

/-- Every buffer but the sum is left as it was. -/
theorem afterR_keep (c : Dev nD) (r : Ref sig .tc) (h : r ≠ main_v12) : afterR W c (Proc.devRef .tc r) = W c (Proc.devRef .tc r) :=
  Pipeline.afterRegion_keeps (dat W c) (W c) arr_inj (fun _ => rfl) r fun w hw => by
    match w with
    | 0 => rfl
    | 1 => exact absurd hw.symm h

theorem N_lt : 49 < cfg1.N := by rw [show cfg1.N = 50 from N_1]; decide

def tLast : Fin cfg1.N := ⟨49, N_lt⟩

theorem off_last : (fun a => win1_1.index tLast a * main_v12.ty.shape.size a) = fun _ => 0 := funext fun a => by fin_cases a <;> decide

theorem flushed_eq (c : Dev nD) (t : Fin cfg1.N) (hf : (cfg1.win 1).flush t = true) :
    (dat W c).flushed 1 t = ((cfg1.win 1).blk t).view.read (Elt F) (acc W c 49 N_lt) := by
  have h49 : t = tLast := Fin.ext (by
    have h := (flush1_1 t).mp hf
    have h50 : t.val < 50 := lt_of_lt_of_eq t.isLt N_1
    show t.val = 49
    omega)
  subst h49
  exact (Memref.read_access_unit_zero (Elt F) main_v12 off_last (fun a => by rw [congrFun off_last a]; simp) (acc W c 49 N_lt)).symm

/-- The sum's buffer at the end. -/
theorem afterR_sum (c : Dev nD) : afterR W c (Proc.devRef .tc main_v12) = acc W c 49 N_lt :=
  (Pipeline.afterRegion_arr (dat W c) (W c) arr_inj 1).trans <| (dat W c).arrAt_eq_of_cover 1 (acc W c 49 N_lt) (flushed_eq W c) fun i =>
    ⟨tLast, (flush1_1 tLast).mpr rfl, by
      show i ∈ ((View.whole main_v12).slice (win1_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 1 from by decide +kernel]; omega⟩

end Cert.Proof.K

end
-- ==== Proof.TileVals.lean ====
/-
  What a tile computes, as functions: its targets, the two lists of flat positions, what is gathered at them, and the
  three rows it writes; and that a scratch buffer written in two halves, or read by half, is what one expects.
-/
module

public import proofs.«01_k».proof.Proof.Setup
public import Idealize.ShloMosaic.Lib.ValueIdx
public import Idealize.ShloMosaic.Lib.Writes
public import Idealize.ShloMosaic.Lib.Pipeline.Value

@[expose] public section

noncomputable section

namespace Cert.Proof.K

open Cert.KernelIdeal Cert.KernelIdeal.Gen

open Idealize.ShloMosaic
open Idealize.SL Idealize.SL.RA Idealize.SL.BI
open Idealize.SL.Sem

variable {F : FTy → Type} [FloatOps F]

/-! ## The memrefs a tile's body is run on -/

abbrev fV : Memref sig .scVector .hbm S102400000 .f32 := Memref.whole main_v0_scv
abbrev tV : Memref sig .scVector .hbm S1024 .i32 := Memref.whole main_arg1_scv
abbrev oV : Memref sig .scVector .hbm S32x3x16 .f32 := Memref.whole main_v1_scv
abbrev s0V : Memref sig .scVector .vmem S32 .i32 := Memref.whole cc0_scratch0
abbrev s1V : Memref sig .scVector .vmem S32 .i32 := Memref.whole cc0_scratch1
abbrev s2V : Memref sig .scVector .vmem S32 .i32 := Memref.whole cc0_scratch2
abbrev s3V : Memref sig .scVector .vmem S32 .f32 := Memref.whole cc0_scratch3
abbrev s4V : Memref sig .scVector .vmem S32 .f32 := Memref.whole cc0_scratch4
abbrev s5V : Memref sig .scVector .vmem S3x16 .f32 := Memref.whole cc0_scratch5

/-- The tile's 32 targets, its part of the result, and the whole table, as the task addresses them. -/
abbrev tRowK (L : grid0.Coords) : Memref sig .scVector .hbm S32 .i32 := tV.slice (Rect.unit (s := S1024) (k0_off1 L) S32.size (k0_off1_inb L)) (fun _ => rfl)
abbrev oRowK (L : grid0.Coords) : Memref sig .scVector .hbm S3x16 .f32 :=
  (oV.slice (Rect.unit (s := S32x3x16) (k0_off2 L) S1x3x16.size (k0_off2_inb L)) (fun _ => rfl)).squeeze S3x16 squeezes_S1x3x16_S3x16
abbrev fAllK : Memref sig .scVector .hbm S102400000 .f32 :=
  fV.slice (Rect.unit (s := S102400000) ![0] S102400000.size inb_S102400000_S102400000_0) (fun _ => rfl)

/-! ## The values -/

/-- Position `n` of the flat table. -/
def fIx (n : ℕ) : S102400000.Idx := ValueIdx.ix1 ⟨n % 102400000, Nat.mod_lt _ (by norm_num)⟩

/-- Row `j` of tile `w`. -/
def bIx (w : Fin 32) (j : Fin 32) : Fin 1024 := ⟨32 * w.val + j.val, by have := w.isLt; have := j.isLt; omega⟩

/-- Tile `w`'s targets, -/
def tgts (w : Fin 32) (A1 : S1024.Idx → BitVec 32) : S32.Idx → BitVec 32 := fun j => A1 (ValueIdx.ix1 (bIx w (j 0)))
/-- the flat positions of the targets' entries, -/
def list1 (w : Fin 32) (A1 : S1024.Idx → BitVec 32) : S32.Idx → BitVec 32 :=
  fun j => BitVec.ofNat 32 ((bIx w (j 0)).val * 100000 + (tgts w A1 j).toNat)
/-- of the ignored class's entries, -/
def list2 (w : Fin 32) : S32.Idx → BitVec 32 := fun j => BitVec.ofNat 32 ((bIx w (j 0)).val * 100000 + 99900)
/-- and the entries. -/
def ent1 (w : Fin 32) (X0 : S102400000.Idx → F .f32) (A1 : S1024.Idx → BitVec 32) : S32.Idx → F .f32 :=
  fun j => X0 (fIx ((bIx w (j 0)).val * 100000 + (tgts w A1 j).toNat))
def ent2 (w : Fin 32) (X0 : S102400000.Idx → F .f32) : S32.Idx → F .f32 :=
  fun j => X0 (fIx ((bIx w (j 0)).val * 100000 + 99900))

/-- The two halves of 32 values. -/
def lo {α : Type} (g : S32.Idx → α) : S16.Idx → α := fun x => g (ValueIdx.ix1 ⟨(x 0).val, Nat.lt_of_lt_of_le (show (x 0).val < 16 from (x 0).isLt) (by norm_num)⟩)
def hi {α : Type} (g : S32.Idx → α) : S16.Idx → α := fun x => g (ValueIdx.ix1 ⟨16 + (x 0).val, by have : (x 0).val < 16 := (x 0).isLt; omega⟩)

/-- The three rows tile `w` writes. -/
def rows3 (w : Fin 32) (X0 : S102400000.Idx → F .f32) (A1 : S1024.Idx → BitVec 32) : S3x16.Idx → F .f32 := fun j =>
  if (j 0).val = 0 then k0_pay1 (k0_pay15 (F := F) (lo (ent1 w X0 A1)) (hi (ent1 w X0 A1))) (ValueIdx.ix2 0 (j 1))
  else if (j 0).val = 1 then k0_pay2 (k0_pay12 (F := F) (lo (tgts w A1)) (lo (ent2 w X0))) (k0_pay14 (F := F) (hi (tgts w A1))) (hi (ent2 w X0)) (ValueIdx.ix2 0 (j 1))
  else k0_pay3 (F := F) (k0_pay13 (F := F) (lo (tgts w A1))) (k0_pay14 (F := F) (hi (tgts w A1))) (ValueIdx.ix2 0 (j 1))

/-- The whole of what the tiles write. -/
def oVal (X0 : S102400000.Idx → F .f32) (A1 : S1024.Idx → BitVec 32) : S32x3x16.Idx → F .f32 :=
  fun j => rows3 (j 0) X0 A1 (ValueIdx.ix2 (j 1) (j 2))

/-! ## Reading and writing scratch -/

theorem load0_lo (g : S32.Idx → BitVec 32) :
    View.readAt (Elt F) s0V.view (Rect.unit (s := S32) ![0] S16.size inb_S32_S16_0).toLoadRect g = lo g :=
  funext fun x => congrArg g (funext fun a => Fin.ext (by match a with | 0 => exact (Nat.zero_add _).trans (Nat.one_mul _)))
theorem load0_hi (g : S32.Idx → BitVec 32) :
    View.readAt (Elt F) s0V.view (Rect.unit (s := S32) ![16] S16.size inb_S32_S16_16).toLoadRect g = hi g :=
  funext fun x => congrArg g (funext fun a => Fin.ext (by match a with | 0 => exact congrArg (16 + ·) (Nat.one_mul _)))
theorem load3_lo (g : S32.Idx → F .f32) :
    View.readAt (Elt F) s3V.view (Rect.unit (s := S32) ![0] S16.size inb_S32_S16_0).toLoadRect g = lo g :=
  funext fun x => congrArg g (funext fun a => Fin.ext (by match a with | 0 => exact (Nat.zero_add _).trans (Nat.one_mul _)))
theorem load3_hi (g : S32.Idx → F .f32) :
    View.readAt (Elt F) s3V.view (Rect.unit (s := S32) ![16] S16.size inb_S32_S16_16).toLoadRect g = hi g :=
  funext fun x => congrArg g (funext fun a => Fin.ext (by match a with | 0 => exact congrArg (16 + ·) (Nat.one_mul _)))
theorem load4_lo (g : S32.Idx → F .f32) :
    View.readAt (Elt F) s4V.view (Rect.unit (s := S32) ![0] S16.size inb_S32_S16_0).toLoadRect g = lo g :=
  funext fun x => congrArg g (funext fun a => Fin.ext (by match a with | 0 => exact (Nat.zero_add _).trans (Nat.one_mul _)))
theorem load4_hi (g : S32.Idx → F .f32) :
    View.readAt (Elt F) s4V.view (Rect.unit (s := S32) ![16] S16.size inb_S32_S16_16).toLoadRect g = hi g :=
  funext fun x => congrArg g (funext fun a => Fin.ext (by match a with | 0 => exact congrArg (16 + ·) (Nat.one_mul _)))

/-- A list of 32 words written in two halves. -/
theorem store1 (f G : S32.Idx → BitVec 32) (p q : S16.Idx → BitVec 32) (hp : p = hi G) (hq : q = lo G) :
    s1V.view.writes (Elt F) f [⟨Rect.unit (s := S32) ![16] S16.size inb_S32_S16_16, p⟩, ⟨Rect.unit (s := S32) ![0] S16.size inb_S32_S16_0, q⟩] = G := by
  subst hp hq
  refine (View.read_whole cc0_scratch1 _).symm.trans (funext fun y => ?_)
  have hy : (y 0).val < 32 := (y 0).isLt
  by_cases h : (y 0).val < 16
  · rw [View.read_writes_cons_miss_of_axis _ _ _ _ y 0 16 16 rfl rfl rfl (.inl h),
      View.read_writes_cons_hit_of_coords _ _ (Rect.unit (s := S32) ![0] S16.size inb_S32_S16_0) _ _ (ValueIdx.ix1 ⟨(y 0).val, h⟩) y
        (fun a => by match a with | 0 => exact ((Nat.zero_add _).trans (Nat.one_mul _)).symm)]
    exact congrArg G (ValueIdx.eq_ix1 y).symm
  · rw [View.read_writes_cons_hit_of_coords _ _ (Rect.unit (s := S32) ![16] S16.size inb_S32_S16_16) _ _ (ValueIdx.ix1 ⟨(y 0).val - 16, by omega⟩) y
        (fun a => by match a with | 0 => show (y 0).val = 16 + 1 * ((y 0).val - 16); omega)]
    refine congrArg G (Eq.trans ?_ (ValueIdx.eq_ix1 y).symm)
    exact congrArg ValueIdx.ix1 (Fin.ext (show 16 + ((y 0).val - 16) = (y 0).val by omega))

theorem store2 (f G : S32.Idx → BitVec 32) (p q : S16.Idx → BitVec 32) (hp : p = hi G) (hq : q = lo G) :
    s2V.view.writes (Elt F) f [⟨Rect.unit (s := S32) ![16] S16.size inb_S32_S16_16, p⟩, ⟨Rect.unit (s := S32) ![0] S16.size inb_S32_S16_0, q⟩] = G := by
  subst hp hq
  refine (View.read_whole cc0_scratch2 _).symm.trans (funext fun y => ?_)
  have hy : (y 0).val < 32 := (y 0).isLt
  by_cases h : (y 0).val < 16
  · rw [View.read_writes_cons_miss_of_axis _ _ _ _ y 0 16 16 rfl rfl rfl (.inl h),
      View.read_writes_cons_hit_of_coords _ _ (Rect.unit (s := S32) ![0] S16.size inb_S32_S16_0) _ _ (ValueIdx.ix1 ⟨(y 0).val, h⟩) y
        (fun a => by match a with | 0 => exact ((Nat.zero_add _).trans (Nat.one_mul _)).symm)]
    exact congrArg G (ValueIdx.eq_ix1 y).symm
  · rw [View.read_writes_cons_hit_of_coords _ _ (Rect.unit (s := S32) ![16] S16.size inb_S32_S16_16) _ _ (ValueIdx.ix1 ⟨(y 0).val - 16, by omega⟩) y
        (fun a => by match a with | 0 => show (y 0).val = 16 + 1 * ((y 0).val - 16); omega)]
    refine congrArg G (Eq.trans ?_ (ValueIdx.eq_ix1 y).symm)
    exact congrArg ValueIdx.ix1 (Fin.ext (show 16 + ((y 0).val - 16) = (y 0).val by omega))

/-- The three rows, written one after the other. -/
theorem store5 (f : S3x16.Idx → F .f32) (p0 p1 p2 : S1x16.Idx → F .f32) :
    s5V.view.writes (Elt F) f [⟨Rect.unit (s := S3x16) ![2, 0] S1x16.size inb_S3x16_S1x16_2_0, p2⟩,
        ⟨Rect.unit (s := S3x16) ![1, 0] S1x16.size inb_S3x16_S1x16_1_0, p1⟩, ⟨Rect.unit (s := S3x16) ![0, 0] S1x16.size inb_S3x16_S1x16_0_0, p0⟩]
      = fun j => if (j 0).val = 0 then p0 (ValueIdx.ix2 0 (j 1)) else if (j 0).val = 1 then p1 (ValueIdx.ix2 0 (j 1)) else p2 (ValueIdx.ix2 0 (j 1)) := by
  refine (View.read_whole cc0_scratch5 _).symm.trans (funext fun y => ?_)
  have hy : (y 0).val < 3 := (y 0).isLt
  by_cases h0 : (y 0).val = 0
  · rw [if_pos h0, View.read_writes_cons_miss_of_axis _ _ _ _ y 0 2 1 rfl rfl rfl (.inl (by omega)),
      View.read_writes_cons_miss_of_axis _ _ _ _ y 0 1 1 rfl rfl rfl (.inl (by omega)),
      View.read_writes_cons_hit_of_coords _ _ (Rect.unit (s := S3x16) ![0, 0] S1x16.size inb_S3x16_S1x16_0_0) _ _ (ValueIdx.ix2 0 (y 1)) y
        (fun a => by match a with | 0 => exact h0 | 1 => exact ((Nat.zero_add _).trans (Nat.one_mul _)).symm)]
  · rw [if_neg h0]
    by_cases h1 : (y 0).val = 1
    · rw [if_pos h1, View.read_writes_cons_miss_of_axis _ _ _ _ y 0 2 1 rfl rfl rfl (.inl (by omega)),
        View.read_writes_cons_hit_of_coords _ _ (Rect.unit (s := S3x16) ![1, 0] S1x16.size inb_S3x16_S1x16_1_0) _ _ (ValueIdx.ix2 0 (y 1)) y
          (fun a => by match a with | 0 => exact h1 | 1 => exact ((Nat.zero_add _).trans (Nat.one_mul _)).symm)]
    · rw [if_neg h1,
        View.read_writes_cons_hit_of_coords _ _ (Rect.unit (s := S3x16) ![2, 0] S1x16.size inb_S3x16_S1x16_2_0) _ _ (ValueIdx.ix2 0 (y 1)) y
          (fun a => by match a with | 0 => (show (y 0).val = 2; omega) | 1 => exact ((Nat.zero_add _).trans (Nat.one_mul _)).symm)]

/-! ## The lists as the body computes them -/

variable (L : grid0.Coords)

/-- The targets fetched. -/
theorem read_tgts (A1 : S1024.Idx → BitVec 32) : (tRowK L).view.read (Elt F) A1 = tgts (wid L) A1 := by
  funext x
  refine congrArg A1 (funext fun a => Fin.ext ?_)
  match a with
  | 0 =>
    show k0_off1 L 0 + 1 * (x 0).val = 32 * (wid L).val + (x 0).val
    rw [k0_off1_eq]
    show 64 * (L 1).val + 32 * (L 0).val + 1 * (x 0).val = 32 * (2 * (L 1).val + (L 0).val) + (x 0).val
    omega

/-- A lane's number, as the body takes it, -/
theorem iota_at (x : S16.Idx) : iota .scVector S16 32 [0] iota_S16_d0_w32_scVector x = BitVec.ofNat 32 (x 0).val :=
  congrArg (BitVec.ofNat 32) (show 0 * 16 + (x 0).val = (x 0).val by omega)

theorem addi_at (a b : IVec S16 32) (x : S16.Idx) : addi a b x = a x + b x := rfl
theorem muli_at (a b : IVec S16 32) (x : S16.Idx) : muli a b x = a x * b x := rfl
theorem broadcast_at (v : BitVec 32) (x : S16.Idx) : broadcast S16 v x = v := rfl

/-- and a flat position, as the body computes it. -/
theorem rowWord (c : ℕ) (x : ℕ) (t z : BitVec 32) (hz : z = BitVec.ofNat 32 x) :
    (((BitVec.ofNat 32 (L 1).val * BitVec.ofNat 32 2 + BitVec.ofNat 32 (L 0).val) * BitVec.ofNat 32 32 + BitVec.ofNat 32 c) + z) * BitVec.ofNat 32 100000 + t
      = BitVec.ofNat 32 ((32 * (wid L).val + (c + x)) * 100000 + t.toNat) := by
  have ht : t = BitVec.ofNat 32 t.toNat := by simp
  have hw : (wid L).val = 2 * (L 1).val + (L 0).val := rfl
  rw [hw]
  generalize t.toNat = n at ht
  subst ht hz
  simp only [← BitVec.ofNat_mul, ← BitVec.ofNat_add]
  exact congrArg (BitVec.ofNat 32) (by ring)

theorem pay5_eq (A1 : S1024.Idx → BitVec 32) : k0_pay5 (F := F) L (lo (tgts (wid L) A1)) = lo (list1 (wid L) A1) := by
  funext x
  unfold k0_pay5 k0_pay4
  simp only [shapeCast_self, addi_at, muli_at, broadcast_at, Scalar.muli, Scalar.addi, IntOp.addi, IntOp.muli]
  refine (rowWord L 0 (x 0).val (lo (tgts (wid L) A1) x) _ (iota_at x)).trans ?_
  rw [Nat.zero_add]; rfl
theorem pay8_eq (A1 : S1024.Idx → BitVec 32) : k0_pay8 (F := F) L (hi (tgts (wid L) A1)) = hi (list1 (wid L) A1) := by
  funext x
  unfold k0_pay8 k0_pay7
  simp only [shapeCast_self, addi_at, muli_at, broadcast_at, Scalar.muli, Scalar.addi, IntOp.addi, IntOp.muli]
  exact (rowWord L 16 (x 0).val (hi (tgts (wid L) A1) x) _ (iota_at x))
theorem pay6_eq : k0_pay6 L = lo (list2 (wid L)) := by
  funext x
  unfold k0_pay6 k0_pay4
  simp only [shapeCast_self, addi_at, muli_at, broadcast_at, Scalar.muli, Scalar.addi, IntOp.addi, IntOp.muli]
  refine (rowWord L 0 (x 0).val _ _ (iota_at x)).trans ?_
  rw [Nat.zero_add]; rfl
theorem pay10_eq : k0_pay10 (k0_pay7 L) k0_pay9 = hi (list2 (wid L)) := by
  funext x
  unfold k0_pay10 k0_pay7 k0_pay9
  simp only [shapeCast_self, addi_at, muli_at, broadcast_at, Scalar.muli, Scalar.addi, IntOp.addi, IntOp.muli]
  exact (rowWord L 16 (x 0).val _ _ (iota_at x))

theorem list1_toNat (w : Fin 32) (A1 : S1024.Idx → BitVec 32) (hA : ∀ j, (A1 j).toNat < 100000) (j : S32.Idx) :
    (list1 w A1 j).toNat = (bIx w (j 0)).val * 100000 + (tgts w A1 j).toNat := by
  have h := (bIx w (j 0)).isLt
  have h' : (tgts w A1 j).toNat < 100000 := hA _
  exact BitVec.toNat_ofNat _ _ |>.trans (Nat.mod_eq_of_lt (by omega))
theorem list2_toNat (w : Fin 32) (j : S32.Idx) : (list2 w j).toNat = (bIx w (j 0)).val * 100000 + 99900 := by
  have h := (bIx w (j 0)).isLt
  exact BitVec.toNat_ofNat _ _ |>.trans (Nat.mod_eq_of_lt (by omega))
theorem list1_lt (w : Fin 32) (A1 : S1024.Idx → BitVec 32) (hA : ∀ j, (A1 j).toNat < 100000) (j : S32.Idx) : (list1 w A1 j).toNat < 102400000 := by
  rw [list1_toNat w A1 hA j]
  have h := (bIx w (j 0)).isLt
  have h' : (tgts w A1 j).toNat < 100000 := hA _
  omega
theorem list2_lt (w : Fin 32) (j : S32.Idx) : (list2 w j).toNat < 102400000 := by
  rw [list2_toNat w j]
  have h := (bIx w (j 0)).isLt
  omega

theorem read_fAll (X0 : S102400000.Idx → F .f32) : fAllK.view.read (Elt F) X0 = X0 :=
  funext fun x => congrArg X0 (funext fun a => Fin.ext (by match a with | 0 => exact (Nat.zero_add _).trans (Nat.one_mul _)))

/-- What a gather brings by a list of positions. -/
theorem gather_eq (g : S102400000.Idx → F .f32) (l : S32.Idx → BitVec 32) (hn : S32.numel = S32.size gathers_S102400000_S32.axis')
    (hin : ∀ x, (l x).toNat < S102400000.size gathers_S102400000_S32.axis) :
    SparseCore.gatherPayload (F := F) (e := .f32) gathers_S102400000_S32 g (SparseCore.rows (F := F) l hn hin) = fun j => g (fIx (l j).toNat) := by
  funext j
  unfold SparseCore.gatherPayload
  refine congrArg g (funext fun a => Fin.ext ?_)
  have ha : a = gathers_S102400000_S32.axis := Subsingleton.elim (α := Fin 1) _ _
  subst ha
  rw [Shape.Gathers.idx_axis]
  have e : S32.rowMajor.symm ((j gathers_S102400000_S32.axis').cast hn.symm) = j := by
    rw [Equiv.symm_apply_eq]
    refine Fin.ext ?_
    rw [Shape.rowMajor_val_one]
    rfl
  show (l (S32.rowMajor.symm _)).toNat = (l j).toNat % 102400000
  rw [e]
  exact (Nat.mod_eq_of_lt (hin j)).symm

theorem gather1 (X0 : S102400000.Idx → F .f32) (A1 : S1024.Idx → BitVec 32) (hA : ∀ j, (A1 j).toNat < 100000) (w : Fin 32) :
    (fun j => X0 (fIx (list1 w A1 j).toNat)) = ent1 w X0 A1 := by
  funext j; rw [list1_toNat w A1 hA]; rfl
theorem gather2 (X0 : S102400000.Idx → F .f32) (w : Fin 32) : (fun j => X0 (fIx (list2 w j).toNat)) = ent2 w X0 := by
  funext j; rw [list2_toNat w]; rfl

/-- The rows written are the tile's part of the whole. -/
theorem oVal_emb (X0 : S102400000.Idx → F .f32) (A1 : S1024.Idx → BitVec 32) (y : S3x16.Idx) :
    oVal X0 A1 ((oRowK L).view.emb y) = rows3 (wid L) X0 A1 y := by
  show (oRowK L).view.read (Elt F) (oVal X0 A1) y = _
  refine (congrFun (Memref.read_squeeze_slice (Val := Elt F) oV (Rect.unit (s := S32x3x16) (k0_off2 L) S1x3x16.size (k0_off2_inb L)) (fun _ => rfl)
    squeezes_S1x3x16_S3x16 squeezes_S1x3x16_S3x16.numel_eq (oVal X0 A1)) y).trans ?_
  refine (shapeCast_dropUnit_apply ![3, 16] _ _ y).trans ?_
  refine (show ∀ (a a' : Fin 32) (b b' : Fin 3) (c c' : Fin 16), a = a' → b = b' → c = c' →
    rows3 a X0 A1 (ValueIdx.ix2 b c) = rows3 a' X0 A1 (ValueIdx.ix2 b' c') by rintro _ _ _ _ _ _ rfl rfl rfl; rfl)
    _ (wid L) _ (y 0) _ (y 1) (Fin.ext ?_) (Fin.ext ?_) (Fin.ext ?_) |>.trans (congrArg _ (ValueIdx.eq_ix2 y).symm)
  · show k0_off2 L 0 + 1 * 0 = 2 * (L 1).val + (L 0).val
    rw [k0_off2_eq]; rfl
  · show k0_off2 L 1 + 1 * (y 0).val = (y 0).val
    rw [k0_off2_eq]; exact (Nat.zero_add _).trans (Nat.one_mul _)
  · show k0_off2 L 2 + 1 * (y 1).val = (y 1).val
    rw [k0_off2_eq]; exact (Nat.zero_add _).trans (Nat.one_mul _)

end Cert.Proof.K

end
-- ==== Proof.Tile.lean ====
/-
  The task of one tile, run once at a symbolic tile: it fetches its 32 targets, makes the two lists of flat positions
  (the target's entry of each row, and the ignored class's), gathers the table at both, adds up what it gathered lane by
  lane, and writes the three rows of sixteen to its own part of the result. What it writes is carried exactly.
-/
module

public import proofs.«01_k».proof.Proof.TileVals

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

section Tile

variable (d : Dev nD) (L : grid0.Coords)

/-- The tile's part of the result. -/
abbrev oSet : Finset S32x3x16.Idx := (oRowK L).view.set

abbrev cGcell : GSem nD τ sig := (V d (cV L) (jV L), .dma cc0_scratch6.sem)
abbrev cAcell : GSem nD τ sig := (V d (cV L) (jV L), .dma cc0_scoped0.sem)
abbrev cBcell : GSem nD τ sig := (V d (cV L) (jV L), .dma cc0_scoped1.sem)

theorem ownSems0_V :
    (ownSems0 (V d (cV L) (jV L)) : sProp 𝕄)
      = iprop(semVal (cGcell d L) 0 ∗ semVal (cAcell d L) 0 ∗ semVal (cBcell d L) 0
          ∗ bigSep ((((ownCells (V d (cV L) (jV L))).erase (cGcell d L)).erase (cAcell d L)).erase (cBcell d L)) fun g => semVal g 0) := by
  unfold SparseCore.Cfg.ownSems0
  rw [SparseCore.bigSep_erase' ((mem_ownCells (g := cGcell d L)).mpr ⟨rfl, by
      show (SemLoc.dma cc0_scratch6.sem : SemLoc sig).isScoped .scVector = true; decide⟩),
    SparseCore.bigSep_erase' (Finset.mem_erase.mpr ⟨by simp [cGcell, cAcell]; decide, (mem_ownCells (g := cAcell d L)).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d L)).mpr ⟨rfl, by show (SemLoc.dma cc0_scoped1.sem : SemLoc sig).isScoped .scVector = true; decide⟩⟩⟩)]

/-- The subcore's own buffer `r`, as an abstract one. -/
abbrev dref (r : Ref sig .scVector) : DevRef τ sig := (Proc.scVector (cV L) (jV L)).devRef r

/-- The six scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (((((((ownRefs (τ := τ) (.scVector (cV L) (jV L))).erase (dref L cc0_scratch0)).erase (dref L cc0_scratch1)).erase (dref L cc0_scratch2)).erase
              (dref L cc0_scratch3)).erase (dref L cc0_scratch4)).erase (dref L cc0_scratch5))
              fun b => iprop(∃ f, ((d, b) : Loc nD τ sig) ↦{fullShare} f)) := by
  have own : ∀ r : Ref sig .scVector, (dref L r).owner = .proc (.scVector (cV L) (jV L)) → dref L r ∈ ownRefs (τ := τ) (sig := sig) (.scVector (cV L) (jV L)) :=
    fun r h => SparseCore.Cfg.mem_ownRefs_of_owner (p := Proc.scVector (cV L) (jV L)) (b := dref L r) h
  have ne : ∀ r r' : Ref sig .scVector, r ≠ r' → dref L r ≠ dref L r' := fun r r' h e => h (Proc.devRef_injective _ e)
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide), Finset.mem_erase.mpr ⟨ne cc0_scratch2 cc0_scratch0 (by decide), own cc0_scratch2 rfl⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), own cc0_scratch3 rfl⟩⟩⟩),
    SparseCore.bigSep_erase' (Finset.mem_erase.mpr ⟨ne cc0_scratch4 cc0_scratch3 (by decide), Finset.mem_erase.mpr ⟨ne cc0_scratch4 cc0_scratch2 (by decide),
      Finset.mem_erase.mpr ⟨ne cc0_scratch4 cc0_scratch1 (by decide), Finset.mem_erase.mpr ⟨ne cc0_scratch4 cc0_scratch0 (by decide), own cc0_scratch4 rfl⟩⟩⟩⟩),
    SparseCore.bigSep_erase' (Finset.mem_erase.mpr ⟨ne cc0_scratch5 cc0_scratch4 (by decide), Finset.mem_erase.mpr ⟨ne cc0_scratch5 cc0_scratch3 (by decide),
      Finset.mem_erase.mpr ⟨ne cc0_scratch5 cc0_scratch2 (by decide), Finset.mem_erase.mpr ⟨ne cc0_scratch5 cc0_scratch1 (by decide),
        Finset.mem_erase.mpr ⟨ne cc0_scratch5 cc0_scratch0 (by decide), own cc0_scratch5 rfl⟩⟩⟩⟩⟩)]

/-- The table and the targets, lent; the tile's part of the result. -/
abbrev fPts (X0 : Buf (Elt F) (fLoc d)) : sProp 𝕄 := fLoc d ↦{leafq L} X0
abbrev tPts (A1 : Buf (Elt F) (tLoc d)) : sProp 𝕄 := tLoc d ↦{leafq L} A1
abbrev oPts (O0 : Buf (Elt F) (oLoc d)) : sProp 𝕄 := oLoc d ↦[oSet L]{fullShare} O0

variable (X0 : Buf (Elt F) (fLoc d)) (A1 : Buf (Elt F) (tLoc d)) (O0 : Buf (Elt F) (oLoc d))

set_option maxHeartbeats 4000000 in
theorem tile_body (hF : (K (F := F)).Facts) (hA : ∀ j, (A1 j).toNat < 100000) (O : CellTallies nD τ sig (HIx 1)) (W : Waits sig (HIx 1)) (hO : ∀ g, O g none = 0) :
    iprop(levAts (K (F := F)).L (K (F := F)).lev ∗ emp
        ∗ (fPts d L X0 ∗ tPts d L A1 ∗ oPts d L O0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L fV (Memref.isWhole_whole _) tV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scoped0 cc0_scoped1)
          fun _ => iprop((fPts d L X0 ∗ tPts d L A1 ∗ oPts d L (oVal X0 A1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Hx, Ht, Ho⟩, ⟨⟨%f0, H0⟩, ⟨%f1, H1⟩, ⟨%f2, H2⟩, ⟨%f3, H3⟩, ⟨%f4, H4⟩, ⟨%f5, H5⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (fLoc d ↦{leafq L} X0 : sProp 𝕄) = fV.view.loc (V d (cV L) (jV L)) ↦{leafq L} X0 from rfl)) $$ Hx
  ihave Ht' := (Entails.of_eq (show (tLoc d ↦{leafq L} A1 : sProp 𝕄) = tV.view.loc (V d (cV L) (jV L)) ↦{leafq L} A1 from rfl)) $$ Ht
  ihave Ho' := (Entails.of_eq (show (oLoc d ↦[oSet L]{fullShare} O0 : sProp 𝕄) = (oRowK L).view.loc (V d (cV L) (jV L)) ↦[(oRowK L).view.set]{fullShare} O0 from rfl)) $$ Ho
  ihave H0' := (Entails.of_eq (show ((V d (cV L) (jV L)).loc cc0_scratch0 ↦{fullShare} f0 : sProp 𝕄) = s0V.view.loc (V d (cV L) (jV L)) ↦{fullShare} f0 from rfl)) $$ H0
  ihave H1' := (Entails.of_eq (show ((V d (cV L) (jV L)).loc cc0_scratch1 ↦{fullShare} f1 : sProp 𝕄) = s1V.view.loc (V d (cV L) (jV L)) ↦{fullShare} f1 from rfl)) $$ H1
  ihave H2' := (Entails.of_eq (show ((V d (cV L) (jV L)).loc cc0_scratch2 ↦{fullShare} f2 : sProp 𝕄) = s2V.view.loc (V d (cV L) (jV L)) ↦{fullShare} f2 from rfl)) $$ H2
  ihave H3' := (Entails.of_eq (show ((V d (cV L) (jV L)).loc cc0_scratch3 ↦{fullShare} f3 : sProp 𝕄) = s3V.view.loc (V d (cV L) (jV L)) ↦{fullShare} f3 from rfl)) $$ H3
  ihave H4' := (Entails.of_eq (show ((V d (cV L) (jV L)).loc cc0_scratch4 ↦{fullShare} f4 : sProp 𝕄) = s4V.view.loc (V d (cV L) (jV L)) ↦{fullShare} f4 from rfl)) $$ H4
  ihave H5' := (Entails.of_eq (show ((V d (cV L) (jV L)).loc cc0_scratch5 ↦{fullShare} f5 : sProp 𝕄) = s5V.view.loc (V d (cV L) (jV L)) ↦{fullShare} f5 from rfl)) $$ H5
  sl_exec
  have hv : View.write (Elt F) s0V.view f0 (tile_body.sl.dma0 d L A1) Finset.univ = tgts (wid L) A1 :=
    (View.write_whole_univ cc0_scratch0 _ _).trans (read_tgts (F := F) L A1)
  have e1 : s1V.view.writes (Elt F) s1V.view.junk (tile_body.sl.H1'_2 d L A1 f0) = list1 (wid L) A1 := by
    refine store1 _ _ _ _ ?_ ?_
    · rw [hv, load0_hi, pay8_eq]
    · rw [hv, load0_lo, pay5_eq]
  have hrs3 : (s3V).view.set = Finset.univ := View.set_whole _
  have hrs4 : (s4V).view.set = Finset.univ := View.set_whole _
  have hss1 : (s1V).view.set = Finset.univ := View.set_whole _
  have hss2 : (s2V).view.set = Finset.univ := View.set_whole _
  have e2 : s2V.view.writes (Elt F) f2 [⟨Rect.unit (s := S32) ![16] S16.size inb_S32_S16_16, k0_pay10 (k0_pay7 L) k0_pay9⟩,
      ⟨Rect.unit (s := S32) ![0] S16.size inb_S32_S16_0, k0_pay6 L⟩] = list2 (wid L) :=
    store2 (F := F) _ _ _ _ (pay10_eq L) (pay6_eq L)
  ihave G0 := (Entails.of_eq (show (s0V.view.loc (V d (cV L) (jV L)) ↦{fullShare} View.write (Elt F) s0V.view f0 (tile_body.sl.dma0 d L A1) Finset.univ : sProp 𝕄)
      = s0V.view.loc (V d (cV L) (jV L)) ↦{fullShare} tgts (wid L) A1 by rw [hv])) $$ H0'
  ihave G1 := (Entails.of_eq (show (s1V.view.loc (V d (cV L) (jV L)) ↦{fullShare} s1V.view.writes (Elt F) s1V.view.junk (tile_body.sl.H1'_2 d L A1 f0) : sProp 𝕄)
      = s1V.view.loc (V d (cV L) (jV L)) ↦[(s1V).view.set]{fullShare} list1 (wid L) A1 by rw [hss1, e1])) $$ H1'
  ihave G2 := (Entails.of_eq (show (s2V.view.loc (V d (cV L) (jV L)) ↦{fullShare} s2V.view.writes (Elt F) f2
        [⟨Rect.unit (s := S32) ![16] S16.size inb_S32_S16_16, k0_pay10 (k0_pay7 L) k0_pay9⟩, ⟨Rect.unit (s := S32) ![0] S16.size inb_S32_S16_0, k0_pay6 L⟩] : sProp 𝕄)
      = s2V.view.loc (V d (cV L) (jV L)) ↦[(s2V).view.set]{fullShare} list2 (wid L) by rw [hss2, e2])) $$ H2'
  ihave G3 := (Entails.of_eq (show (s3V.view.loc (V d (cV L) (jV L)) ↦{fullShare} f3 : sProp 𝕄)
      = s3V.view.loc (V d (cV L) (jV L)) ↦[(s3V).view.set]{fullShare} f3 by rw [hrs3])) $$ H3'
  ihave G4 := (Entails.of_eq (show (s4V.view.loc (V d (cV L) (jV L)) ↦{fullShare} f4 : sProp 𝕄)
      = s4V.view.loc (V d (cV L) (jV L)) ↦[(s4V).view.set]{fullShare} f4 by rw [hrs4])) $$ H4'
  ihave Hxs := (pointsTo_split_subset (q := leafq L) (f := X0) (S := Finset.univ) (Finset.subset_univ (fAllK).view.set)).1 $$ Hx'
  icases Hxs with ⟨Hxs, Hxr⟩
  have hN3 : ∀ h : S102400000.Gathers 0 S32, ∑ j, ((s3V).slice (S32.rowRect h.axis' j) (S32.stride_rowRect h.axis' j)).view.dmaCredit
      = (s3V).view.dmaCredit := by decide
  have hN4 : ∀ h : S102400000.Gathers 0 S32, ∑ j, ((s4V).slice (S32.rowRect h.axis' j) (S32.stride_rowRect h.axis' j)).view.dmaCredit
      = (s4V).view.dmaCredit := by decide
  have hin1 : ∀ x, ((s1V).view.read (Elt F) (list1 (wid L) A1) x).toNat < S102400000.size gathers_S102400000_S32.axis := fun x => list1_lt (wid L) A1 hA x
  have hin2 : ∀ x, ((s2V).view.read (Elt F) (list2 (wid L)) x).toNat < S102400000.size gathers_S102400000_S32.axis := fun x => list2_lt (wid L) x
  -- the gather of the targets' entries, and its wait
  iapply (SparseCore.wp_indirectGatherLocal countersEmb 𝒱₀ (V d (cV L) (jV L)) none (hg := gathers_S102400000_S32) (default : HIx 1)
      (s3V).view.dmaCredit (hN3 _) (by decide) hin1) $$ [Hxs G3 G1 HsemG]
  · isplitl [Hxs]; · iexact Hxs
    isplitl [G3]; · iexact G3
    isplitl [G1]; · iexact G1
    iexact HsemG
  iintro Hfl
  sl_exec
  iapply (Transfers.wp_waitLocalO countersEmb 𝒱₀ (V d (cV L) (jV L)) none (default : HIx 1) (rfl : (s3V).view.dmaCredit = _)) $$ [Hfl HO]
  · isplitl [Hfl]; · iexact Hfl
    isplitl [HO]; · iexact HO
    iapply (Transfers.MayWaits.elim (SemLoc.dma cc0_scratch6.sem)) $$ Hmw
  iintro ⟨⟨G3, Hxs, G1⟩, HsemG, HO⟩
  sl_exec
  have g3 : View.write (Elt F) s3V.view f3 (SparseCore.gatherPayload gathers_S102400000_S32 ((fAllK).view.read (Elt F) X0)
      (SparseCore.rows ((s1V).view.read (Elt F) (list1 (wid L) A1)) rfl hin1)) Finset.univ = ent1 (wid L) X0 A1 :=
    (View.write_whole_univ cc0_scratch3 _ _).trans (by rw [read_fAll]; exact (gather_eq X0 _ _ hin1).trans (gather1 X0 A1 hA (wid L)))
  have g4 : ∀ f, s4V.view.writes (Elt F) f [⟨Rect.whole S32, tile_body.sl.gather0 d L X0 hin2⟩] = ent2 (wid L) X0 := by
    intro f
    refine Eq.trans (b := tile_body.sl.gather0 d L X0 hin2) ?_ ?_
    · refine (View.read_whole cc0_scratch4 _).symm.trans (funext fun y => ?_)
      exact View.read_writes_cons_hit_of_coords s4V.view f (Rect.whole S32) (tile_body.sl.gather0 d L X0 hin2) [] y y
        (fun a => ((Nat.zero_add _).trans (Nat.one_mul _)).symm)
    · unfold tile_body.sl.gather0
      rw [read_fAll]; exact (gather_eq X0 _ _ hin2).trans (gather2 X0 (wid L))
  have hd : tile_body.sl.dma12 d L X0 A1 f3 f5 hin1 hin2 = rows3 (wid L) X0 A1 := by
    refine (View.read_whole cc0_scratch5 _).trans ((store5 f5 _ _ _).trans ?_)
    have h52 : tile_body.sl.v52 d L X0 A1 f3 hin1 = lo (ent1 (wid L) X0 A1) := (congrArg _ g3).trans (load3_lo _)
    have h68 : tile_body.sl.v68 d L X0 A1 f3 hin1 = hi (ent1 (wid L) X0 A1) := (congrArg _ g3).trans (load3_hi _)
    have h55 : tile_body.sl.v55 d L X0 hin2 = lo (ent2 (wid L) X0) := by
      unfold tile_body.sl.v55
      exact (congrArg _ (g4 _)).trans (load4_lo _)
    have h71 : tile_body.sl.v71 d L X0 hin2 = hi (ent2 (wid L) X0) := by
      unfold tile_body.sl.v71
      exact (congrArg _ (g4 _)).trans (load4_hi _)
    rw [h52, h68, h55, h71, load0_lo, load0_hi]
    rfl
  have ho : ∀ i ∈ (oRowK L).view.set, (oRowK L).view.writes (Elt F) O0 [⟨Rect.whole S3x16, tile_body.sl.dma12 d L X0 A1 f3 f5 hin1 hin2⟩] i = oVal X0 A1 i := by
    intro i hi'
    obtain ⟨y, -, rfl⟩ := Finset.mem_map.mp hi'
    refine Eq.trans ?_ (oVal_emb (F := F) L X0 A1 y).symm
    refine Eq.trans ?_ (congrFun hd y)
    exact View.read_writes_cons_hit_of_coords (oRowK L).view O0 (Rect.whole S3x16) (tile_body.sl.dma12 d L X0 A1 f3 f5 hin1 hin2) [] y y (fun a => ((Nat.zero_add _).trans (Nat.one_mul _)).symm)
  sl_step
  isplitl [Hxr Ht' Ho']
  · isplitl [Hxr]; · iexact Hxr
    isplitl [Ht']; · iexact Ht'
    iapply (Entails.of_eq (show (oLoc d ↦[oSet L]{fullShare} (oRowK L).view.writes (Elt F) O0 [⟨Rect.whole S3x16, tile_body.sl.dma12 d L X0 A1 f3 f5 hin1 hin2⟩] : sProp 𝕄)
      = oLoc d ↦[oSet L]{fullShare} oVal X0 A1 from pointsTo_congr ho))
    iexact Ho'
  isplitl [G0 G1 G2 G3 G4 H5' Hbufs]
  · isplitl [G0]; · iexists _; iexact G0
    isplitl [G1]; · iexists _; iapply (Entails.of_eq (show ((s1V).view.loc (V d (cV L) (jV L)) ↦[(s1V).view.set]{fullShare} _ : sProp 𝕄)
      = (s1V).view.loc (V d (cV L) (jV L)) ↦{fullShare} _ by rw [hss1])); iexact G1
    isplitl [G2]; · iexists _; iapply (Entails.of_eq (show ((s2V).view.loc (V d (cV L) (jV L)) ↦[(s2V).view.set]{fullShare} _ : sProp 𝕄)
      = (s2V).view.loc (V d (cV L) (jV L)) ↦{fullShare} _ by rw [hss2])); iexact G2
    isplitl [G3]; · iexists _; iapply (Entails.of_eq (show ((s3V).view.loc (V d (cV L) (jV L)) ↦[(s3V).view.set]{fullShare} _ : sProp 𝕄)
      = (s3V).view.loc (V d (cV L) (jV L)) ↦{fullShare} _ by rw [hrs3])); iexact G3
    isplitl [G4]; · iexists _; iapply (Entails.of_eq (show ((s4V).view.loc (V d (cV L) (jV L)) ↦[(s4V).view.set]{fullShare} _ : sProp 𝕄)
      = (s4V).view.loc (V d (cV L) (jV L)) ↦{fullShare} _ by rw [hrs4])); iexact G4
    isplitl [H5']; · iexists _; iexact H5'
    iexact Hbufs
  isplitl [HsemA HsemG HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.K

end
-- ==== Proof.Obl.lean ====
/-
  What the one SparseCore call carries: to every tile its share of the table and of the targets and its own part of the
  result, and back from it the same with the rows written. The tile's obligation; the buffers of the call split among the
  32 tiles and put back together.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles, numbered -/

def coordsV (c : Fin (grid0.bound 0)) (s : Fin (grid0.bound 1)) : grid0.Coords :=
  fun | 0 => c | 1 => s | ⟨_ + 2, h⟩ => absurd h (Nat.not_lt.2 (Nat.le_add_left _ _))

/-- Tile `s` of core `c` is the one numbered `2 s + c`. -/
def tileE : Fin 2 × Fin 16 ≃ Fin 32 where
  toFun p := ⟨2 * p.2.val + p.1.val, by have := p.1.isLt; have := p.2.isLt; omega⟩
  invFun w := (⟨w.val % 2, Nat.mod_lt _ (by norm_num)⟩, ⟨w.val / 2, by have := w.isLt; omega⟩)
  left_inv p := by
    have h1 := p.1.isLt
    have h2 := p.2.isLt
    refine Prod.ext (Fin.ext ?_) (Fin.ext ?_)
    · show (2 * p.2.val + p.1.val) % 2 = p.1.val
      omega
    · show (2 * p.2.val + p.1.val) / 2 = p.2.val
      omega
  right_inv w := Fin.ext (show 2 * (w.val / 2) + w.val % 2 = w.val by omega)

/-! ## The result's parts -/

theorem odiv : 32 ∣ S32x3x16.size 0 := ⟨1, rfl⟩
abbrev oPart (w : Fin 32) : Rect S32x3x16 := Rect.part (s := S32x3x16) (a₀ := 0) odiv w
abbrev oPartSet (w : Fin 32) : Finset S32x3x16.Idx := (oPart w).set

theorem oRect_eq (L : grid0.Coords) : Rect.unit (s := S32x3x16) (k0_off2 L) S1x3x16.size (k0_off2_inb L) = oPart (wid L) := by
  unfold oPart Rect.part Rect.block
  congr 1 <;> funext a
  · rw [k0_off2_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem oSet_eq (L : grid0.Coords) : oSet L = oPartSet (wid L) := by
  show (((oV).view.slice (Rect.unit (s := S32x3x16) (k0_off2 L) S1x3x16.size (k0_off2_inb L))).reshape S3x16 squeezes_S1x3x16_S3x16.numel_eq).set = _
  rw [View.set_reshape]
  have h : ∀ r : Rect S32x3x16, (((oV).view.slice r).set : Finset S32x3x16.Idx) = r.set := fun r => by
    show ((View.whole (main_v1_scv : Ref sig .scVector)).slice r).set = r.set
    rw [View.set_slice]; exact Finset.map_refl
  exact (h _).trans (congrArg (fun r : Rect S32x3x16 => r.set) (oRect_eq L))

theorem oParts_disjoint : ∀ i ∈ (Finset.univ : Finset (Fin 32)), ∀ j ∈ (Finset.univ : Finset (Fin 32)), i ≠ j → Disjoint (oPartSet i) (oPartSet j) :=
  fun _ _ _ _ h => Rect.part_disjoint odiv h
theorem oParts_cover : (Finset.univ : Finset (Fin 32)).biUnion oPartSet = Finset.univ := Rect.biUnion_part odiv

/-! ## What the handshakes carry -/

variable (X0 : (d : Dev nD) → Buf (Elt F) (fLoc d)) (A1 : (d : Dev nD) → Buf (Elt F) (tLoc d)) (O0 : (d : Dev nD) → Buf (Elt F) (oLoc d))

/-- The buffers of the call, whole, -/
abbrev fAll (d : Dev nD) (f : Buf (Elt F) (fLoc d)) : sProp 𝕄 := fLoc d ↦{fullShare} f
abbrev tAll (d : Dev nD) (f : Buf (Elt F) (tLoc d)) : sProp 𝕄 := tLoc d ↦{fullShare} f
abbrev oAll (d : Dev nD) (f : Buf (Elt F) (oLoc d)) : sProp 𝕄 := oLoc d ↦{fullShare} f

/-- and tile `w`'s pieces of them. -/
abbrev piece (d : Dev nD) (w : Fin 32) (fX : Buf (Elt F) (fLoc d)) (fA : Buf (Elt F) (tLoc d)) (fO : Buf (Elt F) (oLoc d)) : sProp 𝕄 :=
  iprop((fLoc d ↦{ShareLeaves.leaf 5 fullShare w} fX) ∗ (tLoc d ↦{ShareLeaves.leaf 5 fullShare w} fA) ∗ oLoc d ↦[oPartSet w]{fullShare} fO)

/-- The tiles' part of the whole, after. -/
abbrev O1 (d : Dev nD) : Buf (Elt F) (oLoc d) := oVal (X0 d) (A1 d)

theorem nCore_zero : (K (F := F)).nCore 0 = 2 := rfl
theorem nSub_zero : (K (F := F)).nSub 0 = 16 := rfl

/-- The tile's number at the call's own indices. -/
abbrev widx (c : Fin ((K (F := F)).nCore 0)) (i : Fin ((K (F := F)).nSub 0)) : Fin 32 := tileE (Fin.cast nCore_zero c, Fin.cast nSub_zero i)

def P : (K (F := F)).Pay (nD := nD) (Val := Elt F) (Name := ℕ) (U := UU) where
  st := fun q d c => match q with
    | 0 => bigSep Finset.univ fun i : Fin ((K (F := F)).nSub 0) => piece d (widx c i) (X0 d) (A1 d) (O0 d)
  dn := fun q d c => match q with
    | 0 => bigSep Finset.univ fun i : Fin ((K (F := F)).nSub 0) => piece d (widx c i) (X0 d) (A1 d) (O1 X0 A1 d)
  go := fun q d c i => match q with | 0 => piece d (widx c i) (X0 d) (A1 d) (O0 d)
  td := fun q d c i => match q with | 0 => piece d (widx c i) (X0 d) (A1 d) (O1 X0 A1 d)
  x := fun _ _ => iprop(emp)

instance P_storable : (P (F := F) X0 A1 O0).IsStorable where
  st q d c := match q with
    | 0 => (inferInstance : BI.Storable (upEmb : UEmb _ 𝕄) (bigSep Finset.univ fun i : Fin ((K (F := F)).nSub 0) => piece d (widx c i) (X0 d) (A1 d) (O0 d)))
  dn q d c := match q with
    | 0 => (inferInstance : BI.Storable (upEmb : UEmb _ 𝕄) (bigSep Finset.univ fun i : Fin ((K (F := F)).nSub 0) => piece d (widx c i) (X0 d) (A1 d) (O1 X0 A1 d)))
  go q d c i := match q with
    | 0 => (inferInstance : BI.Storable (upEmb : UEmb _ 𝕄) (piece d (widx c i) (X0 d) (A1 d) (O0 d)))
  td q d c i := match q with
    | 0 => (inferInstance : BI.Storable (upEmb : UEmb _ 𝕄) (piece d (widx c i) (X0 d) (A1 d) (O1 X0 A1 d)))

/-! ## The tile's obligation -/

theorem defs₀_vector (c : Fin τ.nSC) (s : Fin τ.nSub) :
    defs₀ (F := F) (.scVector c s) 0 ()
      = SparseCore.onTile hcore0 hsub0 (fun c s => cc0__sc_gather_body (coordsV c s) fV (Memref.isWhole_whole _) tV (Memref.isWhole_whole _) oV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem piece_eq (d : Dev nD) (L : grid0.Coords) (fX : Buf (Elt F) (fLoc d)) (fA : Buf (Elt F) (tLoc d)) (fO : Buf (Elt F) (oLoc d)) :
    (piece d (wid L) fX fA fO : sProp 𝕄) = iprop(fPts d L fX ∗ tPts d L fA ∗ oPts d L fO) := by
  unfold piece fPts tPts oPts
  rw [oSet_eq]

set_option maxRecDepth 16384 in
theorem tileObl (hF : (K (F := F)).Facts) (hA : ∀ d j, (A1 d j).toNat < 100000) : (K (F := F)).TileObl (D (F := F)) 𝒱 (P X0 A1 O0) v₀ 0 := by
  intro d c i O W hO _ _
  simp only [show (P X0 A1 O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb := (tile_body d (coordsV ⟨_, hci.1⟩ ⟨_, hci.2⟩) (X0 d) (A1 d) (O0 d) hF (hA d) O W hO).trans (wp_mono frame _ _ fun _ => obl_post (q := 0))
  rw [← piece_eq, ← piece_eq] at hb
  exact hb

theorem vecSplit : (K (F := F)).VecSplit' (P X0 A1 O0) 0 := by
  intro d c
  show (bigSep Finset.univ fun i : Fin ((K (F := F)).nSub 0) => piece d (widx c i) (X0 d) (A1 d) (O0 d)) ⊢ |={Set.univ}=> iprop(
      (bigSep Finset.univ fun i : Fin ((K (F := F)).nSub 0) => piece d (widx c i) (X0 d) (A1 d) (O0 d))
      ∗ ((bigSep Finset.univ fun i : Fin ((K (F := F)).nSub 0) => piece d (widx c i) (X0 d) (A1 d) (O1 X0 A1 d))
        -∗ (bigSep Finset.univ fun i : Fin ((K (F := F)).nSub 0) => piece d (widx c i) (X0 d) (A1 d) (O1 X0 A1 d))))
  iintro H; imodintro
  isplitl [H]; · iexact H
  iintro H; iexact H

/-! ## The call's buffers, split and joined -/

theorem pieces_eq (d : Dev nD) (fX : Buf (Elt F) (fLoc d)) (fA : Buf (Elt F) (tLoc d)) (fO : Buf (Elt F) (oLoc d)) :
    (bigSep Finset.univ fun c : Fin ((K (F := F)).nCore 0) => bigSep Finset.univ fun i : Fin ((K (F := F)).nSub 0) => piece d (widx c i) fX fA fO)
      = (iprop(fAll d fX ∗ tAll d fA ∗ oAll d fO) : sProp 𝕄) := by
  have h : (bigSep Finset.univ fun c : Fin ((K (F := F)).nCore 0) => bigSep Finset.univ fun i : Fin ((K (F := F)).nSub 0) => (piece d (widx c i) fX fA fO : sProp 𝕄))
      = bigSep Finset.univ fun w : Fin 32 => piece d w fX fA fO :=
    (bigSep_univ_prod (fun p : Fin 2 × Fin 16 => (piece d (tileE p) fX fA fO : sProp 𝕄))).symm.trans
      (bigSep_univ_equiv tileE (fun w : Fin 32 => (piece d w fX fA fO : sProp 𝕄))).symm
  rw [h]
  unfold piece
  rw [bigSep_sep', bigSep_sep']
  have h1 : (bigSep Finset.univ fun w : Fin 32 => (fLoc d ↦{ShareLeaves.leaf 5 fullShare w} fX : sProp 𝕄)) = fAll d fX :=
    (ShareLeaves.pointsTo_leaves Finset.univ fX 5 fullShare).symm
  have h2 : (bigSep Finset.univ fun w : Fin 32 => (tLoc d ↦{ShareLeaves.leaf 5 fullShare w} fA : sProp 𝕄)) = tAll d fA :=
    (ShareLeaves.pointsTo_leaves Finset.univ fA 5 fullShare).symm
  have h3 : (bigSep Finset.univ fun w : Fin 32 => (oLoc d ↦[oPartSet w]{fullShare} fO : sProp 𝕄)) = oAll d fO := by
    rw [← pointsTo_biUnion Finset.univ (ℓ := oLoc d) oPartSet oParts_disjoint, oParts_cover]
  rw [h1, h2, h3]

theorem st0_eq (d : Dev nD) : (bigSep Finset.univ fun c : Fin ((K (F := F)).nCore 0) => (P X0 A1 O0).st 0 d c) = iprop(fAll d (X0 d) ∗ tAll d (A1 d) ∗ oAll d (O0 d)) :=
  pieces_eq d (X0 d) (A1 d) (O0 d)
theorem dn0_eq (d : Dev nD) : (bigSep Finset.univ fun c : Fin ((K (F := F)).nCore 0) => (P X0 A1 O0).dn 0 d c) = iprop(fAll d (X0 d) ∗ tAll d (A1 d) ∗ oAll d (O1 X0 A1 d)) :=
  pieces_eq d (X0 d) (A1 d) (O1 X0 A1 d)

end Cert.Proof.K

end
-- ==== Proof.Host.lean ====
/- The host's lines around the two calls, as lists; the valuations they leave; the program's result as one term. -/
module

public import proofs.«01_k».proof.Proof.Region
public import proofs.«01_k».proof.Proof.Obl

@[expose] public section

noncomputable section

namespace Cert.Proof.K

open Cert.KernelIdeal Cert.KernelIdeal.Gen

open Idealize.ShloMosaic
open Idealize.ShloMosaic.TcCoe
open Idealize.SL Idealize.SL.RA Idealize.SL.BI
open Idealize.SL.Sem
open Idealize.ShloMosaic.StableHlo

variable {F : FTy → Type} [FloatOps F]

/-- The lines before the first call. -/
abbrev ops0 : List (HloOp τ sig (Elt F)) :=
  [ StableHlo.reshape main_arg0 main_v0 (rfl : (.f32 : EltTy) = .f32) shapeCasts_S1024x100000_S102400000 ]

/-- The lines before the second call. -/
abbrev ops1 : List (HloOp τ sig (Elt F)) :=
  [ StableHlo.unary main_v1 main_v2 ((extractStridedSlice S32x1x16 ![0, 0, 0] · slices_S32x3x16_S32x1x16_0_0_0) : (⟨S32x3x16, .f32⟩ : BufTy).Contents (Elt F) → (⟨S32x1x16, .f32⟩ : BufTy).Contents (Elt F)),
    StableHlo.reshape main_v2 main_v3 (rfl : (.f32 : EltTy) = .f32) shapeCasts_S32x1x16_S32x16,
    StableHlo.nullary main_cst (constant S_ .f32 0x00000000#32),
    StableHlo.binary main_v3 main_cst main_v4 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.unary main_v1 main_v5 ((extractStridedSlice S32x1x16 ![0, 1, 0] · slices_S32x3x16_S32x1x16_0_1_0) : (⟨S32x3x16, .f32⟩ : BufTy).Contents (Elt F) → (⟨S32x1x16, .f32⟩ : BufTy).Contents (Elt F)),
    StableHlo.reshape main_v5 main_v6 (rfl : (.f32 : EltTy) = .f32) shapeCasts_S32x1x16_S32x16,
    StableHlo.nullary main_cst_0 (constant S_ .f32 0x00000000#32),
    StableHlo.binary main_v6 main_cst_0 main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.unary main_v1 main_v8 ((extractStridedSlice S32x1x16 ![0, 2, 0] · slices_S32x3x16_S32x1x16_0_2_0) : (⟨S32x3x16, .f32⟩ : BufTy).Contents (Elt F) → (⟨S32x1x16, .f32⟩ : BufTy).Contents (Elt F)),
    StableHlo.reshape main_v8 main_v9 (rfl : (.f32 : EltTy) = .f32) shapeCasts_S32x1x16_S32x16,
    StableHlo.nullary main_cst_1 (constant S_ .f32 0x00000000#32),
    StableHlo.binary main_v9 main_cst_1 main_v10 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.reshape main_arg0 main_v11 (rfl : (.f32 : EltTy) = .f32) shapeCasts_S1024x100000_S8000x12800 ]

/-- The lines before the return. -/
abbrev ops2 : List (HloOp τ sig (Elt F)) :=
  [ StableHlo.reshape main_v12 main_v13 (rfl : (.f32 : EltTy) = .f32) shapeCasts_S1x1_S_,
    StableHlo.nullary main_cst_2 (constant S_ .f32 0x3F666666#32),
    StableHlo.unary main_cst_2 main_v14 (Host.log : (⟨S_, .f32⟩ : BufTy).Contents (Elt F) → (⟨S_, .f32⟩ : BufTy).Contents (Elt F)),
    StableHlo.nullary main_cst_3 (constant S_ .f32 0x44666666#32),
    StableHlo.binary main_cst_3 main_v14 main_v15 (mulf : (⟨S_, .f32⟩ : BufTy).Contents (Elt F) → (⟨S_, .f32⟩ : BufTy).Contents (Elt F) → (⟨S_, .f32⟩ : BufTy).Contents (Elt F)),
    StableHlo.nullary main_cst_4 (constant S_ .f32 0x3586386D#32),
    StableHlo.unary main_cst_4 main_v16 (Host.log : (⟨S_, .f32⟩ : BufTy).Contents (Elt F) → (⟨S_, .f32⟩ : BufTy).Contents (Elt F)),
    StableHlo.nullary main_cst_5 (constant S_ .f32 0x3586386D#32),
    StableHlo.binary main_cst_5 main_v16 main_v17 (mulf : (⟨S_, .f32⟩ : BufTy).Contents (Elt F) → (⟨S_, .f32⟩ : BufTy).Contents (Elt F) → (⟨S_, .f32⟩ : BufTy).Contents (Elt F)),
    StableHlo.nullary main_cst_6 (constant S_ .f32 0x4CC34F00#32),
    StableHlo.binary main_cst_6 main_v10 main_v18 (addf : (⟨S_, .f32⟩ : BufTy).Contents (Elt F) → (⟨S_, .f32⟩ : BufTy).Contents (Elt F) → (⟨S_, .f32⟩ : BufTy).Contents (Elt F)),
    StableHlo.binary main_v17 main_v18 main_v19 (mulf : (⟨S_, .f32⟩ : BufTy).Contents (Elt F) → (⟨S_, .f32⟩ : BufTy).Contents (Elt F) → (⟨S_, .f32⟩ : BufTy).Contents (Elt F)),
    StableHlo.binary main_v15 main_v19 main_v20 (addf : (⟨S_, .f32⟩ : BufTy).Contents (Elt F) → (⟨S_, .f32⟩ : BufTy).Contents (Elt F) → (⟨S_, .f32⟩ : BufTy).Contents (Elt F)),
    StableHlo.nullary main_cst_7 (constant S_ .f32 0x3586386D#32),
    StableHlo.binary main_cst_7 main_v13 main_v21 (mulf : (⟨S_, .f32⟩ : BufTy).Contents (Elt F) → (⟨S_, .f32⟩ : BufTy).Contents (Elt F) → (⟨S_, .f32⟩ : BufTy).Contents (Elt F)),
    StableHlo.nullary main_cst_8 (constant S_ .f32 0x3F666666#32),
    StableHlo.nullary main_cst_9 (constant S_ .f32 0x3586386D#32),
    StableHlo.binary main_cst_8 main_cst_9 main_v22 (subf : (⟨S_, .f32⟩ : BufTy).Contents (Elt F) → (⟨S_, .f32⟩ : BufTy).Contents (Elt F) → (⟨S_, .f32⟩ : BufTy).Contents (Elt F)),
    StableHlo.binary main_v22 main_v4 main_v23 (mulf : (⟨S_, .f32⟩ : BufTy).Contents (Elt F) → (⟨S_, .f32⟩ : BufTy).Contents (Elt F) → (⟨S_, .f32⟩ : BufTy).Contents (Elt F)),
    StableHlo.binary main_v21 main_v23 main_v24 (addf : (⟨S_, .f32⟩ : BufTy).Contents (Elt F) → (⟨S_, .f32⟩ : BufTy).Contents (Elt F) → (⟨S_, .f32⟩ : BufTy).Contents (Elt F)),
    StableHlo.nullary main_cst_10 (constant S_ .f32 0x3586386D#32),
    StableHlo.binary main_cst_10 main_v7 main_v25 (mulf : (⟨S_, .f32⟩ : BufTy).Contents (Elt F) → (⟨S_, .f32⟩ : BufTy).Contents (Elt F) → (⟨S_, .f32⟩ : BufTy).Contents (Elt F)),
    StableHlo.binary main_v24 main_v25 main_v26 (subf : (⟨S_, .f32⟩ : BufTy).Contents (Elt F) → (⟨S_, .f32⟩ : BufTy).Contents (Elt F) → (⟨S_, .f32⟩ : BufTy).Contents (Elt F)),
    StableHlo.binary main_v20 main_v26 main_v27 (subf : (⟨S_, .f32⟩ : BufTy).Contents (Elt F) → (⟨S_, .f32⟩ : BufTy).Contents (Elt F) → (⟨S_, .f32⟩ : BufTy).Contents (Elt F)) ]

set_option maxRecDepth 8192 in
theorem main_eq (d : Dev nD) : main (F := F) d = (seq ops0 >>= fun _ => sc.run d 0 >>= fun _ => seq ops1 >>= fun _ =>
    Prog.lift (.customCall (SparseCore.inner (Pipeline.entry 0)) ()) >>= fun _ => seq ops2 >>= fun _ => pure ⟨⟩) := rfl

theorem sub0 : (ops0 : List (HloOp τ sig (Elt F))).Forall fun op => op.bufs ⊆ StableHlo.tcRefs τ sig :=
  StableHlo.reshape_bufs_sub ..
theorem fresh0 : (ops0 : List (HloOp τ sig (Elt F))).Forall fun op => op.fresh = ∅ := StableHlo.forall_fresh_of_map rfl
theorem sub1 : (ops1 : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.unary_bufs_sub .., StableHlo.reshape_bufs_sub .., StableHlo.nullary_bufs_sub .., StableHlo.binary_bufs_sub .., StableHlo.unary_bufs_sub .., StableHlo.reshape_bufs_sub .., StableHlo.nullary_bufs_sub .., StableHlo.binary_bufs_sub .., StableHlo.reshape_bufs_sub ..⟩
theorem fresh1 : (ops1 : List (HloOp τ sig (Elt F))).Forall fun op => op.fresh = ∅ := StableHlo.forall_fresh_of_map rfl
theorem sub2 : (ops2 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.binary_bufs_sub .., StableHlo.nullary_bufs_sub .., StableHlo.unary_bufs_sub .., StableHlo.nullary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub .., StableHlo.binary_bufs_sub ..⟩
theorem fresh2 : (ops2 : List (HloOp τ sig (Elt F))).Forall fun op => op.fresh = ∅ := StableHlo.forall_fresh_of_map rfl

/-! ## The valuations -/

variable (m : (ℓ : Loc nD τ sig) → Buf (Elt F) ℓ)

abbrev bref (r : Ref sig .tc) : DevRef τ sig := Proc.devRef .tc r

/-- At launch; -/
def W0 (d : Dev nD) : Valuation τ sig (Elt F) := fun b => m (d, b)
/-- at the first call; -/
def W1 (d : Dev nD) : Valuation τ sig (Elt F) := after ops0 (W0 m d)
/-- The table as one row of words, and the targets, which the first call reads. -/
def X0 (d : Dev nD) : Buf (Elt F) (fLoc d) := W1 m d (bref main_v0)
def A1 (d : Dev nD) : Buf (Elt F) (tLoc d) := m (tLoc d)
def O0 (d : Dev nD) : Buf (Elt F) (oLoc d) := m (oLoc d)
/-- after it; -/
def W2 (d : Dev nD) : Valuation τ sig (Elt F) := Function.update (W1 m d) (bref main_v1) (oVal (X0 m d) (A1 m d))
/-- at the second call; -/
def W3 (d : Dev nD) : Valuation τ sig (Elt F) := after ops1 (W2 m d)
/-- after it; -/
def W4 (d : Dev nD) : Valuation τ sig (Elt F) := afterR (W3 m) d
/-- at the return. -/
def W5 (d : Dev nD) : Valuation τ sig (Elt F) := after ops2 (W4 m d)

/-- The sum of one row of the tiles' results. -/
def red0 (o : (⟨S32x3x16, .f32⟩ : BufTy).Contents (Elt F)) : (⟨S_, .f32⟩ : BufTy).Contents (Elt F) :=
  Host.reduceAdd (shapeCast S32x16 (extractStridedSlice S32x1x16 ![0, 0, 0] o slices_S32x3x16_S32x1x16_0_0_0) shapeCasts_S32x1x16_S32x16) (constant S_ .f32 0x00000000#32) reducesTo_S32x16_S_d0_1 h_S_
def red1 (o : (⟨S32x3x16, .f32⟩ : BufTy).Contents (Elt F)) : (⟨S_, .f32⟩ : BufTy).Contents (Elt F) :=
  Host.reduceAdd (shapeCast S32x16 (extractStridedSlice S32x1x16 ![0, 1, 0] o slices_S32x3x16_S32x1x16_0_1_0) shapeCasts_S32x1x16_S32x16) (constant S_ .f32 0x00000000#32) reducesTo_S32x16_S_d0_1 h_S_
def red2 (o : (⟨S32x3x16, .f32⟩ : BufTy).Contents (Elt F)) : (⟨S_, .f32⟩ : BufTy).Contents (Elt F) :=
  Host.reduceAdd (shapeCast S32x16 (extractStridedSlice S32x1x16 ![0, 2, 0] o slices_S32x3x16_S32x1x16_0_2_0) shapeCasts_S32x1x16_S32x16) (constant S_ .f32 0x00000000#32) reducesTo_S32x16_S_d0_1 h_S_

/-- What the host makes of the three row sums and of the whole table's. -/
def outV (g h n : (⟨S_, .f32⟩ : BufTy).Contents (Elt F)) (s : (⟨S1x1, .f32⟩ : BufTy).Contents (Elt F)) : (⟨S_, .f32⟩ : BufTy).Contents (Elt F) :=
  subf (addf (mulf (constant S_ .f32 0x44666666#32) (Host.log (constant S_ .f32 0x3F666666#32)))
      (mulf (mulf (constant S_ .f32 0x3586386D#32) (Host.log (constant S_ .f32 0x3586386D#32))) (addf (constant S_ .f32 0x4CC34F00#32) n)))
    (subf (addf (mulf (constant S_ .f32 0x3586386D#32) (shapeCast S_ s shapeCasts_S1x1_S_))
        (mulf (subf (constant S_ .f32 0x3F666666#32) (constant S_ .f32 0x3586386D#32)) g))
      (mulf (constant S_ .f32 0x3586386D#32) h))

theorem W1_of_ne (d : Dev nD) (r : Ref sig .tc) (h : r ∉ [main_v0]) : W1 m d (bref r) = W0 m d (bref r) :=
  StableHlo.after_of_writes_sub ops0 _ (StableHlo.forall_writes_sub_of_map rfl) h
theorem X0_eq (d : Dev nD) : X0 m d = shapeCast S102400000 (m (xLoc d) : (⟨S1024x100000, .f32⟩ : BufTy).Contents (Elt F)) shapeCasts_S1024x100000_S102400000 := by
  unfold X0 W1
  after_results_simp
  rfl

theorem W2_of_ne (d : Dev nD) (r : Ref sig .tc) (h : r ≠ main_v1) : W2 m d (bref r) = W1 m d (bref r) :=
  Function.update_of_ne (StableHlo.devRef_ne_of_ne h) _ _
theorem W2_o (d : Dev nD) : W2 m d (bref main_v1) = oVal (X0 m d) (A1 m d) := Function.update_self ..

abbrev wr1 : List (Ref sig .tc) := [main_v2, main_v3, main_cst, main_v4, main_v5, main_v6, main_cst_0, main_v7, main_v8, main_v9, main_cst_1, main_v10, main_v11]
abbrev wr2 : List (Ref sig .tc) := [main_v13, main_cst_2, main_v14, main_cst_3, main_v15, main_cst_4, main_v16, main_cst_5, main_v17, main_cst_6, main_v18, main_v19, main_v20, main_cst_7, main_v21, main_cst_8, main_cst_9, main_v22, main_v23, main_v24, main_cst_10, main_v25, main_v26, main_v27]

theorem W3_of_ne (d : Dev nD) (r : Ref sig .tc) (h : r ∉ wr1) : W3 m d (bref r) = W2 m d (bref r) :=
  StableHlo.after_of_writes_sub ops1 _ (StableHlo.forall_writes_sub_of_map rfl) h
theorem W5_of_ne (d : Dev nD) (r : Ref sig .tc) (h : r ∉ wr2) : W5 m d (bref r) = W4 m d (bref r) :=
  StableHlo.after_of_writes_sub ops2 _ (StableHlo.forall_writes_sub_of_map rfl) h

theorem W3_v4 (d : Dev nD) : W3 m d (bref main_v4) = red0 (oVal (X0 m d) (A1 m d)) := by
  rw [← W2_o]
  unfold W3
  after_results_simp
  rfl
theorem W3_v7 (d : Dev nD) : W3 m d (bref main_v7) = red1 (oVal (X0 m d) (A1 m d)) := by
  rw [← W2_o]
  unfold W3
  after_results_simp
  rfl
theorem W3_v10 (d : Dev nD) : W3 m d (bref main_v10) = red2 (oVal (X0 m d) (A1 m d)) := by
  rw [← W2_o]
  unfold W3
  after_results_simp
  rfl
theorem W3_v11 (d : Dev nD) : W3 m d (bref main_v11) = shapeCast S8000x12800 (m (xLoc d) : (⟨S1024x100000, .f32⟩ : BufTy).Contents (Elt F)) shapeCasts_S1024x100000_S8000x12800 := by
  have h : W2 m d (bref main_arg0) = m (xLoc d) := (W2_of_ne m d main_arg0 (by decide)).trans (W1_of_ne m d main_arg0 (by decide))
  rw [← h]
  unfold W3
  after_results_simp
  rfl

/-- The result. -/
theorem W5_v27 (d : Dev nD) : W5 m d (bref main_v27)
    = outV (red0 (oVal (X0 m d) (A1 m d))) (red1 (oVal (X0 m d) (A1 m d))) (red2 (oVal (X0 m d) (A1 m d))) (acc (W3 m) d 49 N_lt) := by
  have h4 : W4 m d (bref main_v4) = red0 (oVal (X0 m d) (A1 m d)) := (afterR_keep (W3 m) d main_v4 (by decide)).trans (W3_v4 m d)
  have h7 : W4 m d (bref main_v7) = red1 (oVal (X0 m d) (A1 m d)) := (afterR_keep (W3 m) d main_v7 (by decide)).trans (W3_v7 m d)
  have h10 : W4 m d (bref main_v10) = red2 (oVal (X0 m d) (A1 m d)) := (afterR_keep (W3 m) d main_v10 (by decide)).trans (W3_v10 m d)
  have h12 : W4 m d (bref main_v12) = acc (W3 m) d 49 N_lt := afterR_sum (W3 m) d
  rw [← h4, ← h7, ← h10, ← h12]
  unfold W5
  after_results_simp
  rfl

/-- The arguments are left as they were. -/
theorem W5_keep (d : Dev nD) (r : Ref sig .tc) (h2 : r ∉ wr2) (h12 : r ≠ main_v12) (h1 : r ∉ wr1) (h1' : r ≠ main_v1) (h0 : r ∉ [main_v0]) :
    W5 m d (bref r) = W0 m d (bref r) :=
  (W5_of_ne m d r h2).trans <| (afterR_keep (W3 m) d r h12).trans <| (W3_of_ne m d r h1).trans <| (W2_of_ne m d r h1').trans <| W1_of_ne m d r h0
theorem W5_arg0 (d : Dev nD) : W5 m d (bref main_arg0) = m (xLoc d) := W5_keep m d main_arg0 (by decide) (by decide) (by decide) (by decide) (by decide)
theorem W5_arg1 (d : Dev nD) : W5 m d (bref main_arg1) = m (tLoc d) := W5_keep m d main_arg1 (by decide) (by decide) (by decide) (by decide) (by decide)

end Cert.Proof.K
-- ==== Proof.Main.lean ====
/- The program's run: the host's lines, the SparseCore call, the region, from any memory whose targets are in range. -/
module

public import proofs.«01_k».proof.Proof.Host
public import Idealize.ShloMosaic.Lib.Pipeline.RegionArraysD
public import Idealize.ShloMosaic.Lib.SparseCore.Quiescent

@[expose] public section

noncomputable section

namespace Cert.Proof.K

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers the call takes -/

abbrev uc : Finset (DevRef τ sig) := Pipeline.ucRefs τ sig
abbrev callRefs : Finset (Ref sig .tc) := {main_v0, main_arg1, main_v1}
abbrev heldU (d : Dev nD) (V : Valuation τ sig (Elt F)) : sProp 𝕄 := held (d.tc : Thread nD τ) uc V
abbrev restU (d : Dev nD) (V : Valuation τ sig (Elt F)) : sProp 𝕄 := held (d.tc : Thread nD τ) (uc \ Pipeline.hbmRefs (τ := τ) callRefs) V

theorem call_unscoped : ∀ r ∈ callRefs, (Proc.devRef .tc r : DevRef τ sig).isScoped = false := by decide

theorem take3 (d : Dev nD) (V : Valuation τ sig (Elt F)) :
    (heldU d V : sProp 𝕄) = iprop((fAll d (V (bref main_v0)) ∗ tAll d (V (bref main_arg1)) ∗ oAll d (V (bref main_v1))) ∗ restU d V) := by
  unfold heldU
  rw [held_sub_split (d.tc : Thread nD τ) (Pipeline.hbmRefs_sub_ucRefs callRefs call_unscoped) V, Pipeline.held_hbm,
    SparseCore.bigSep_insert' (by decide), SparseCore.bigSep_insert' (by decide), bigSep_singleton]

theorem rest_eq (d : Dev nD) : (restU d (W1 m d) : sProp 𝕄) = restU d (W2 m d) :=
  held_congr (d.tc : Thread nD τ) fun b hb => by
    refine (Function.update_of_ne (fun e => ?_) _ _).symm
    subst e
    exact (Finset.mem_sdiff.mp hb).2 (Finset.mem_map.mpr ⟨main_v1, by decide, rfl⟩)

theorem take3' (d : Dev nD) :
    (iprop((fAll d (X0 m d) ∗ tAll d (A1 m d) ∗ oAll d (O1 (X0 m) (A1 m) d)) ∗ restU d (W2 m d)) : sProp 𝕄) = heldU d (W2 m d) := by
  rw [take3, W2_o, W2_of_ne m d main_v0 (by decide), W2_of_ne m d main_arg1 (by decide), W1_of_ne m d main_arg1 (by decide)]
  rfl

abbrev PP : (K (F := F)).Pay (nD := nD) (Val := Elt F) (Name := ℕ) (U := UU) := P (X0 m) (A1 m) (O0 m)

theorem W1_arg1 (d : Dev nD) : W1 m d (bref main_arg1) = A1 m d := W1_of_ne m d main_arg1 (by decide)
theorem W1_v1 (d : Dev nD) : W1 m d (bref main_v1) = O0 m d := W1_of_ne m d main_v1 (by decide)

theorem take1 (d : Dev nD) : (heldU d (W1 m d) : sProp 𝕄) = iprop((fAll d (X0 m d) ∗ tAll d (A1 m d) ∗ oAll d (O0 m d)) ∗ restU d (W2 m d)) := by
  rw [take3, W1_arg1, W1_v1, rest_eq]
  rfl

/-! ## The launch element -/

abbrev pinj := Pipeline.cellOf (nD := nD) (τ := τ) (sig := sig) (Pipeline.pin (pcfgs (F := F)) adm)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair (initOf (K (F := F)).hsCells (K (F := F)).hsToks) _) $$ Hu
  icases H with ⟨HH, HR⟩
  ihave H := (own_pair_emb (embR (A := UH) (B := UP × Counters)) _ (1 : Counters)) $$ HR
  icases H with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · rw [show (bigSep Finset.univ fun d : Dev nD => (G d : sProp 𝕄)) = iprop((bigSep Finset.univ fun c : Dev nD => bigSep Finset.univ fun p : Fin 1 => Pipeline.cellsGhost (Pipeline.pin (pcfgs (F := F)) adm) (EP (F := F)) p c)
        ∗ (bigSep Finset.univ fun c : Dev nD => bigSep Finset.univ fun p : Fin 1 => Pipeline.toksInit (Pipeline.pin (pcfgs (F := F)) adm) (EP (F := F)) p c)) from by
      rw [bigSep_sep']
      exact congrArg₂ (fun a b : sProp 𝕄 => iprop(a ∗ b))
        (bigSep_congr fun c _ => (bigSep_univ_of_subsingleton (Φ := fun p : Fin 1 => Pipeline.cellsGhost (Pipeline.pin (pcfgs (F := F)) adm) (EP (F := F)) p c) (0 : Fin 1)).symm)
        (bigSep_congr fun c _ => (bigSep_univ_of_subsingleton (Φ := fun p : Fin 1 => Pipeline.toksInit (Pipeline.pin (pcfgs (F := F)) adm) (EP (F := F)) p c) (0 : Fin 1)).symm)]
    isplitl [Hg] <;> iassumption
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## @main on the TensorCore -/

abbrev FIN (d : Dev nD) : sProp 𝕄 := heldU d (W5 m d)

theorem mem_sub {ops : List (HloOp τ sig (Elt F))} (h : ops.Forall fun op => op.bufs ⊆ tcRefs τ sig) : ∀ op ∈ ops, op.bufs ⊆ uc :=
  fun op ho => Pipeline.sub_ucRefs op ((List.forall_iff_forall_mem.mp h) op ho)

theorem unscoped_eq (d : Dev nD) : (unscopedBufs d (fun b => m ((SparseCore.T d).loc b)) : sProp 𝕄) = heldU d (W0 m d) := by
  have h : (fun b : Ref sig .tc => m ((SparseCore.T d).loc b)) = fun b => W0 m d (bref b) := funext fun b => by unfold W0; rfl
  rw [h]
  exact Pipeline.unscopedBufs_held d (W0 m d)

theorem lift_eq : (Prog.lift (.customCall (SparseCore.inner (Pipeline.entry 0)) ()) : Prog (TpuEff nD τ sig (Elt F) (SparseCore.Sig (ΛP (F := F)) 1) .tc) PUnit)
    = SparseCore.liftProg (Prog.op (.customCall (Pipeline.entry 0) ()) fun _ => Prog.ret ⟨⟩ : Prog (TpuEff nD τ sig (Elt F) (ΛP (F := F)) .tc) PUnit) := by
  rw [SparseCore.liftProg_op]
  rfl

/-- The region, entered and left with every buffer held and the core owing nothing. -/
theorem region_wp [∀ e, Nonempty (Elt F e)] (W : Dev nD → Valuation τ sig (Elt F)) (d : Dev nD) (Φ : PUnit → sProp 𝕄) :
    iprop(((boundary (SparseCore.T d) ∗ heldU d (afterR W d) ∗ owesB d) -∗ Φ ⟨⟩)
        ∗ boundary (SparseCore.T d) ∗ (heldU d (W d) ∗ owesB d) ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Φ := by
  rw [lift_eq]
  refine BIBase.Entails.trans ?_ ((K (F := F)).wp_liftProg (D (F := F)) 𝒱 (SparseCore.T d) Set.univ none _ Φ)
  have hreg := Pipeline.RegionSeg.wp (pcfgs (F := F)) adm (pdats W) none cellOf_inj (EP (F := F)) defs₀ 𝒱₀ (K (F := F)).L (K (F := F)).lev (seg W) d none
  have hreg2 := @hreg (fun _ h => nomatch h) PUnit (fun _ => Prog.ret PUnit.unit) Φ
  rw [seg_pre, seg_post] at hreg2
  refine BIBase.Entails.trans ?_ hreg2
  iintro ⟨Hk, Hb, Hpre, Hl, Hg, Ht⟩
  isplitl [Hk]
  · iintro ⟨Hb, Hh, Ho⟩
    rw [wp_ret]
    imodintro
    iapply Hk
    isplitl [Hb]; · iexact Hb
    isplitl [Hh]; · iexact Hh
    iexact Ho
  isplitl [Hb]; · iexact Hb
  isplitl [Hpre]; · iexact Hpre
  isplitl [Hl]; · iexact Hl
  isplitl [Hg]; · iexact Hg
  iexact Ht

theorem held4 (d : Dev nD) : (heldU d (afterR (W3 m) d) : sProp 𝕄) = heldU d (W4 m d) := rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq, main_eq]
  iintro ⟨#Hctx, Hst, ⟨Hb, Hh, Hts, -⟩, Hg⟩
  iapply (wp_seq 𝒱 none Set.univ d uc _ ops0 (mem_sub sub0) (List.forall_iff_forall_mem.mp fresh0) (W0 m d)) $$ [Hb Hh]
  · isplitl [Hb] <;> iassumption
  iintro ⟨Hb, Hh⟩
  rw [show after ops0 (W0 m d) = W1 m d from rfl, wp_bind]
  ihave Hh' := (Entails.of_eq (take1 m d)) $$ Hh
  icases Hh' with ⟨⟨Hf, Ht, Ho⟩, Hr⟩
  ihave Hlev := (SparseCore.Cfg.ctx_levAts κ) $$ Hctx
  iapply ((K (F := F)).wp_run (D (F := F)) 𝒱 (EH := EH) (P := PP m) κ d 0) $$ [Hst Hf Ht Ho Hr Hb Hts Hg Hlev]
  isplitr; · iexact Hctx
  isplitl [Hst]; · iexact Hst
  isplitl [Hf Ht Ho]
  · rw [st0_eq]
    isplitl [Hf]; · iexact Hf
    isplitl [Ht]; · iexact Ht
    iexact Ho
  iintro ⟨Hst, Hdn⟩
  ihave Hdn' := (Entails.of_eq (dn0_eq (X0 m) (A1 m) (O0 m) d)) $$ Hdn
  ihave Hh := (Entails.of_eq (take3' m d)) $$ [Hdn' Hr]
  · isplitl [Hdn']; · iexact Hdn'
    iexact Hr
  iapply (wp_seq 𝒱 none Set.univ d uc _ ops1 (mem_sub sub1) (List.forall_iff_forall_mem.mp fresh1) (W2 m d)) $$ [Hb Hh]
  · isplitl [Hb] <;> iassumption
  iintro ⟨Hb, Hh⟩
  rw [show after ops1 (W2 m d) = W3 m d from rfl, wp_bind]
  unfold SparseCore.Cfg.tcSt
  icases Hst with ⟨⟨%Wd, %hW, HO⟩, Hst⟩
  rw [(K (F := F)).Otc_end d (le_refl 1), (K (F := F)).Otc_end d (show 1 ≤ ((0 : Fin 1) : ℕ) + 1 from le_refl 1)]
  iapply (region_wp (W3 m) d)
  isplitl [Hst Hts]
  · iintro ⟨Hb, Hh, ⟨%Wd', %hW', HO⟩⟩
    ihave Hh := (Entails.of_eq (held4 m d)) $$ Hh
    iapply (wp_seq 𝒱 none Set.univ d uc _ ops2 (mem_sub sub2) (List.forall_iff_forall_mem.mp fresh2) (W4 m d)) $$ [Hb Hh]
    · isplitl [Hb]; · iexact Hb
      iexact Hh
    iintro ⟨Hb, Hh⟩
    rw [wp_pure]
    imodintro
    isplitl [HO Hst]
    · isplitl [HO]
      · iexists Wd'
        isplitr; · ipureintro; exact hW'
        iexact HO
      iexact Hst
    isplitl [Hh]; · iexact Hh
    isplitl [Hb] <;> iassumption
  isplitl [Hb]; · iexact Hb
  isplitl [Hh HO]
  · isplitl [Hh]; · iexact Hh
    iexists Wd
    isplitr; · ipureintro; exact hW
    iexact HO
  isplitl [Hlev]; · iexact Hlev
  iexact Hg

/-! ## The run -/

/-- What the last memory shows of device `d`: every buffer of the TensorCore at its last contents. -/
def fq (d : Dev nD) (s' : Phys nD τ sig (Elt F)) : Prop := ∀ b ∈ uc, s'.mem.mem (d, b) = W5 m d b

theorem hfin (d : Dev nD) (s' : Phys nD τ sig (Elt F)) : iprop(FIN m d ∗ SI s') ⊢ (⌜fq m d s'⌝ : sProp 𝕄) := by
  unfold FIN heldU held
  iintro ⟨H, HSI⟩
  ihave %h := (SI_pointsTo_bufs_agree (st := s') (c := d) (qs := fun _ => fullShare) (F := W5 m d) uc) $$ [HSI H]
  · isplitl [HSI]; · iexact HSI
    iexact H
  ipureintro
  exact h

def QC : PUnit × MemSt nD τ sig (Elt F) → Prop := fun r => (∀ c : Dev nD, ∀ b ∈ uc, r.2.mem (c, b) = W5 m c b) ∧ r.2.sem = fun _ => 0

theorem run_all [∀ e, Nonempty (Elt F e)] (hA : ∀ d j, (A1 m d j).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (X0 m) (A1 m) (O0 m) facts hA)
    (fun q _ => match q with | 0 => SparseCore.Cfg.VecSplit.of_plain (vecSplit (X0 m) (A1 m) (O0 m)))
    m ρ main G (FIN m) (u₀ (F := F)) (sep_elim_left.trans (hu₀ m)) (hmain m ρ) (fq m) (hfin m) (QC m) (fun _ h hz => ⟨h, hz⟩)

theorem uc_arg0 : bref main_arg0 ∈ uc := Finset.mem_filter.mpr ⟨devRef_mem_tcRefs _, by decide⟩
theorem uc_arg1 : bref main_arg1 ∈ uc := Finset.mem_filter.mpr ⟨devRef_mem_tcRefs _, by decide⟩
theorem uc_v27 : bref main_v27 ∈ uc := Finset.mem_filter.mpr ⟨devRef_mem_tcRefs _, by decide⟩

/-- The run from a memory whose targets are in range: the result as computed, the arguments kept, every counter back at zero. -/
theorem run_main [∀ e, Nonempty (Elt F e)] (hA : ∀ d j, (A1 m d j).toNat < 100000) :
    θ_run (Cert.KernelIdeal.defs (F := F)) (Cert.KernelIdeal.threads (F := F)) ⟨m, fun _ => 0, ρ⟩ fun r =>
      (∀ c : Dev nD, r.2.mem ((c.tc : Thread nD τ).loc main_v27) = W5 m c (bref main_v27)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run Cert.KernelIdeal.defs _ _).mono (fun _ h => ⟨fun c => ⟨h.1 c _ uc_v27, (h.1 c _ uc_arg0).trans (W5_arg0 m c), (h.1 c _ uc_arg1).trans (W5_arg1 m c)⟩, h.2⟩)
    (run_all m ρ hA)

end Cert.Proof.K

end
-- ==== Proof.Pre.lean ====
/- What the preconditions say of a memory's arrays: every target is a column, and, for the second, every logit is a real. -/
module

public import proofs.«01_k».proof.Defs
public import Idealize.ShloMosaic.Lib.ReduceAll
public import Idealize.ShloMosaic.Lib.WordCmp
public import Idealize.ShloMosaic.Lib.Affine
public import Idealize.ShloMosaic.Lib.ValueIdx
public import Idealize.ShloMosaic.Lib.Pipeline.Value

@[expose] public section

noncomputable section

namespace Cert.Proof.PreP

open Idealize.ShloMosaic

instance factsR : Cert.Pre_in_range.Facts where
  bcast_S_S1024 := by decide
  reducesTo_S1024_S_d0 := by decide
  h_S_ := by decide

instance factsF : Cert.Pre_in_range_finite.Facts where
  bcast_S_S1024 := by decide
  reducesTo_S1024_S_d0 := by decide
  h_S_ := by decide
  bcast_S_S1024x100000 := by decide
  reducesTo_S1024x100000_S_d0_1 := by decide

theorem word_range (w : BitVec 32) (h : IntOp.andi (IntOp.cmpi .sge w 0#32) (IntOp.cmpi .slt w 100000#32) = 1#1) : w.toNat < 100000 := by
  obtain ⟨h1, h2⟩ := IntOp.andi_eq_one.1 h
  have h1 := IntOp.cmpi_sge.1 h1
  have h2 := IntOp.cmpi_slt.1 h2
  simp only [BitVec.toInt_eq_toNat_cond, BitVec.toNat_ofNat] at h1 h2
  have := w.isLt
  split at h1 <;> split at h2 <;> omega

theorem range_of {F : FTy → Type} [FloatOps F] (X : FVec F Cert.Pre_in_range.S1024x100000 .f32) (A : IVec Cert.Pre_in_range.S1024 32)
    (h : Cert.Pre_in_range.fn X A = fun _ => 1#1) (j : Cert.Pre_in_range.S1024.Idx) : (A j).toNat < 100000 := by
  refine word_range _ ?_
  haveI : Subsingleton Cert.Pre_in_range.S_.Idx := ⟨fun a b => funext fun x => x.elim0⟩
  exact Host.reduce_andi_all _ _ _ _ (fun x => x.elim0) (congrFun h _) j

theorem range_of' {F : FTy → Type} [FloatOps F] (X : FVec F Cert.Pre_in_range_finite.S1024x100000 .f32) (A : IVec Cert.Pre_in_range_finite.S1024 32)
    (h : Cert.Pre_in_range_finite.fn X A = fun _ => 1#1) (j : Cert.Pre_in_range_finite.S1024.Idx) : (A j).toNat < 100000 := by
  refine word_range _ ?_
  haveI : Subsingleton Cert.Pre_in_range_finite.S_.Idx := ⟨fun a b => funext fun x => x.elim0⟩
  exact Host.reduce_andi_all _ _ _ _ (fun x => x.elim0) (IntOp.andi_eq_one.1 (congrFun h (fun x : Fin 0 => x.elim0))).1 j

theorem abs_lt_top (x : EReal) (h : FloatOps.cmpf .olt (FloatOps.hostAbsf (F := Ideal) (φ := .f32) x) (FloatOps.ofBits (F := Ideal) .f32 0x7F800000#32) = 1#1) : ∃ r : ℝ, x = (r : EReal) := by
  have htop : Ideal.ofBits .f32 0x7F800000#32 = ⊤ := by simp [Ideal.ofBits, Ideal.ieee]
  replace h : Ideal.cmp .olt (max x (-x)) (Ideal.ofBits .f32 0x7F800000#32) = 1#1 := h
  rw [htop] at h
  have hlt : max x (-x) < ⊤ := by
    by_contra hn
    simp [Ideal.cmp, hn] at h
  induction x with
  | bot => simp at hlt
  | top => simp at hlt
  | coe r => exact ⟨r, rfl⟩

theorem real_of (X : FVec Ideal Cert.Pre_in_range_finite.S1024x100000 .f32) (A : IVec Cert.Pre_in_range_finite.S1024 32)
    (h : Cert.Pre_in_range_finite.fn X A = fun _ => 1#1) (j : Cert.Pre_in_range_finite.S1024x100000.Idx) : ∃ r : ℝ, X j = (r : EReal) := by
  refine abs_lt_top _ ?_
  haveI : Subsingleton Cert.Pre_in_range_finite.S_.Idx := ⟨fun a b => funext fun x => x.elim0⟩
  exact Host.reduce_andi_all _ _ _ _ (fun x => x.elim0) (IntOp.andi_eq_one.1 (congrFun h (fun x : Fin 0 => x.elim0))).2 j

end Cert.Proof.PreP

end
-- ==== Proof.Frames.lean ====
/- The claims that say a program runs, keeps its arguments and leaves every counter at zero. -/
module

public import proofs.«01_k».proof.Proof.Main
public import proofs.«01_k».proof.Proof.Pre
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The two prints of the kernel have one body table. -/
theorem bodies_eq {F : FTy → Type} [FloatOps F] :
    (@Cert.Kernel.defs₀ F _ _ : Defs Cert.KernelIdeal.nD Cert.KernelIdeal.τ Cert.KernelIdeal.sig (Elt F) Cert.KernelIdeal.Λ₀) = @Cert.KernelIdeal.defs₀ F _ _ := by
  funext pr ℓ a
  cases pr with
  | tc => match ℓ, a with
    | 0, _ => rfl
    | 1, (t, s) => rfl
  | scScalar c => match ℓ, a with
    | 0, _ => rfl
    | 1, (t, s) => rfl
  | scVector c s => match ℓ, a with
    | 0, _ => rfl
    | 1, (t, s) => rfl

theorem defs_eq {F : FTy → Type} [FloatOps F] :
    (@Cert.Kernel.defs F _ _ : Defs Cert.KernelIdeal.nD Cert.KernelIdeal.τ Cert.KernelIdeal.sig (Elt F) _) = @Cert.KernelIdeal.defs F _ _ :=
  congrArg (fun D => (Cert.KernelIdeal.sc (F := F)).defs (Pipeline.defs Cert.KernelIdeal.pcfgs D)) (bodies_eq (F := F))

open Cert.KernelIdeal in
theorem run_args {F : FTy → Type} [FloatOps F] [∀ e, Nonempty (Elt F e)] (m : (ℓ : Loc nD τ sig) → Buf (Elt F) ℓ) (ρ : Dev nD → PrngReg)
    (hA : ∀ d j, (K.A1 m d j).toNat < 100000) :
    θ_run (defs (F := F)) (threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun _ h => ⟨fun c => (h.1 c).2, h.2⟩) (K.run_main m ρ hA)

theorem frame_kernel : Cert.quiescent_Kernel := fun m ρ hp => by
  have h := run_args (F := Bits) m ρ fun d j => PreP.range_of (F := Bits) _ _ (hp d) j
  rw [← defs_eq (F := Bits)] at h
  exact h

theorem frame_kernelIdeal : Cert.quiescent_KernelIdeal := fun m ρ hp =>
  (θ_run Cert.KernelIdeal.defs _ _).mono (fun _ h => ⟨fun c => (h.1 c).2, h.2⟩)
    (K.run_main (F := Ideal) m ρ fun d j => PreP.range_of (F := Ideal) _ _ (hp d) j)

theorem frame_kernelIdeal_finite : Cert.quiescent_KernelIdeal_pre_in_range_finite := fun m ρ hp =>
  (θ_run Cert.KernelIdeal.defs _ _).mono (fun _ h => ⟨fun c => (h.1 c).2, h.2⟩)
    (K.run_main (F := Ideal) m ρ fun d j => PreP.range_of' (F := Ideal) _ _ (hp d) j)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_in_range_finite := fun m ρ _ => frame_reference m ρ trivial

end Cert.Proof

end
-- ==== Proof.Sums.lean ====
/- What the kernel's parts come to over the extended reals: each is a plain sum. -/
module

public import proofs.«01_k».proof.Proof.Main
public import Idealize.ShloMosaic.PureOps.Ideal.Laws
public import Idealize.ShloMosaic.Lib.IdealHost

@[expose] public section

noncomputable section

namespace Cert.Proof.K

open Cert.KernelIdeal Cert.KernelIdeal.Gen
open Idealize.ShloMosaic
open Idealize.ShloMosaic.ValueIdx
open Idealize.SL.Sem

/-! ## Sums by groups -/

/-- A sum over `A * B` numbers, by groups of `B`. -/
theorem sum_groups {M : Type*} [AddCommMonoid M] (A B N : ℕ) (hN : A * B = N) (f : Fin N → M) (k : Fin A → Fin B → Fin N)
    (hk : ∀ a b, (k a b).val = B * a.val + b.val) : ∑ a : Fin A, ∑ b : Fin B, f (k a b) = ∑ n : Fin N, f n := by
  subst hN
  rw [← Equiv.sum_comp finProdFinEquiv f, Fintype.sum_prod_type]
  refine Finset.sum_congr rfl fun a _ => Finset.sum_congr rfl fun b _ => congrArg f (Fin.ext ?_)
  rw [hk, finProdFinEquiv_apply_val]
  ring

/-- A reshape keeps the sum of all entries. -/
theorem sum_shapeCast {M : Type} [AddCommMonoid M] {s t : Shape} (x : s.Idx → M) (h : s.ShapeCasts t) : ∑ j, shapeCast t x h j = ∑ i, x i :=
  Equiv.sum_comp (Shape.reshapeEquiv h) x

/-- The lanes' pairs of rows are all the rows. -/
theorem sum_rows {M : Type*} [AddCommMonoid M] (φ : Fin 1024 → M) :
    ∑ w : Fin 32, ∑ l : Fin 16, (φ (bIx w ⟨l.val, by omega⟩) + φ (bIx w ⟨16 + l.val, by omega⟩)) = ∑ b : Fin 1024, φ b := by
  rw [← sum_groups 32 32 1024 (by norm_num) φ bIx (fun _ _ => rfl)]
  refine Finset.sum_congr rfl fun w _ => ?_
  rw [Finset.sum_add_distrib]
  exact (Fin.sum_univ_add (a := 16) (b := 16) fun j : Fin 32 => φ (bIx w j)).symm

/-! ## The tiles' rows -/

variable (x : S1024x100000.Idx → EReal) (X0 : S102400000.Idx → Ideal .f32) (A1 : S1024.Idx → BitVec 32)

/-- The ignored label's test. -/
def ign (t : BitVec 32) : Prop := t = 99900#32
instance (t : BitVec 32) : Decidable (ign t) := by unfold ign; infer_instance

/-- An entry of the flat table. -/
theorem flat_at (h : S1024x100000.ShapeCasts S102400000) (b : Fin 1024) (v : ℕ) (hv : v < 100000) :
    shapeCast S102400000 x h (fIx (b.val * 100000 + v)) = x (ix2 b ⟨v, hv⟩) := by
  refine shapeCast_apply x h _ _ ?_
  rw [Shape.rowMajor_val_two, Shape.rowMajor_val_one]
  show b.val * 100000 + v = (b.val * 100000 + v) % 102400000
  have := b.isLt
  omega

theorem sel_ign {α : Type} (t : BitVec 32) (a b : α) : Scalar.select (IntOp.cmpi .eq t 99900#32) a b = if ign t then a else b := by
  unfold Scalar.select ign
  exact if_congr IntOp.cmpi_eq rfl rfl

theorem row0_at (w : Fin 32) (l : Fin 16) :
    oVal (F := Ideal) X0 A1 (ix3 w 0 l) = (ent1 w X0 A1 (ix1 ⟨l.val, by omega⟩) + ent1 w X0 A1 (ix1 ⟨16 + l.val, by omega⟩) : EReal) := by
  show k0_pay1 (k0_pay15 (F := Ideal) (lo (ent1 w X0 A1)) (hi (ent1 w X0 A1))) (ix2 0 l) = _
  unfold k0_pay1 k0_pay15
  simp only [shapeCast_self]
  refine (shapeCast_addUnit_apply ![16] _ _ _).trans ?_
  show ((Ideal.ofBits .f32 0x00000000#32 + _ : EReal) + _ : EReal) = _
  rw [Ideal.ofBits_zero_f32, zero_add]
  rfl

theorem row1_at (w : Fin 32) (l : Fin 16) :
    oVal (F := Ideal) X0 A1 (ix3 w 1 l) = ((if ign (tgts w A1 (ix1 ⟨l.val, by omega⟩)) then 0 else ent2 w X0 (ix1 ⟨l.val, by omega⟩))
      + (if ign (tgts w A1 (ix1 ⟨16 + l.val, by omega⟩)) then 0 else ent2 w X0 (ix1 ⟨16 + l.val, by omega⟩)) : EReal) := by
  show k0_pay2 (k0_pay12 (F := Ideal) (lo (tgts w A1)) (lo (ent2 w X0))) (k0_pay14 (F := Ideal) (hi (tgts w A1))) (hi (ent2 w X0)) (ix2 0 l) = _
  unfold k0_pay2 k0_pay12 k0_pay14 k0_pay11
  simp only [shapeCast_self]
  refine (shapeCast_addUnit_apply ![16] _ _ _).trans ?_
  rw [← sel_ign, ← sel_ign]
  show ((Ideal.ofBits .f32 0x00000000#32 + Scalar.select _ (Ideal.ofBits .f32 0x00000000#32) _ : EReal) + Scalar.select _ (Ideal.ofBits .f32 0x00000000#32) _ : EReal) = _
  rw [Ideal.ofBits_zero_f32, zero_add]
  rfl

theorem row2_at (w : Fin 32) (l : Fin 16) :
    oVal (F := Ideal) X0 A1 (ix3 w 2 l) = ((if ign (tgts w A1 (ix1 ⟨l.val, by omega⟩)) then 1 else 0)
      + (if ign (tgts w A1 (ix1 ⟨16 + l.val, by omega⟩)) then 1 else 0) : EReal) := by
  show k0_pay3 (F := Ideal) (k0_pay13 (F := Ideal) (lo (tgts w A1))) (k0_pay14 (F := Ideal) (hi (tgts w A1))) (ix2 0 l) = _
  unfold k0_pay3 k0_pay13 k0_pay14 k0_pay11
  simp only [shapeCast_self]
  refine (shapeCast_addUnit_apply ![16] _ _ _).trans ?_
  rw [← sel_ign, ← sel_ign]
  show ((Ideal.ofBits .f32 0x00000000#32 + Scalar.select _ (Ideal.ofBits .f32 0x3F800000#32) (Ideal.ofBits .f32 0x00000000#32) : EReal)
    + Scalar.select _ (Ideal.ofBits .f32 0x3F800000#32) (Ideal.ofBits .f32 0x00000000#32) : EReal) = _
  rw [Ideal.ofBits_zero_f32, Ideal.ofBits_one_f32, zero_add]
  rfl

/-! ## The host's sums of them -/

/-- The host's sum of row `r`. -/
theorem sum_row (o : S32x3x16.Idx → EReal) (r : ℕ) (hr : r < 3) (hs : S32x3x16.Slices ![0, r, 0] S32x1x16) (j : S_.Idx) :
    Host.reduceAdd (F := Ideal) (φ := .f32) (shapeCast S32x16 (extractStridedSlice S32x1x16 ![0, r, 0] o hs) shapeCasts_S32x1x16_S32x16) (constant S_ .f32 0x00000000#32) reducesTo_S32x16_S_d0_1 h_S_ j
      = ∑ w : Fin 32, ∑ l : Fin 16, o (ix3 w ⟨r, hr⟩ l) := by
  refine (Ideal.hostReduceAdd_total reducesTo_S32x16_S_d0_1 (fun b => b.elim0) _ _ j).trans ?_
  have h0 : (constant S_ .f32 0x00000000#32 : FVec Ideal S_ .f32) (Shape.Idx.first h_S_) = (0 : EReal) := Ideal.ofBits_zero_f32
  rw [h0, zero_add, ValueIdx.sum_idx2]
  refine Finset.sum_congr rfl fun w _ => Finset.sum_congr rfl fun l _ => ?_
  refine (shapeCast_apply _ _ _ (ix3 w 0 l) ?_).trans ?_
  · rw [Shape.rowMajor_val_two, Shape.rowMajor_val_three]
    show (w.val * 1 + 0) * 16 + l.val = w.val * 16 + l.val
    omega
  · refine congrArg o (funext fun a => Fin.ext ?_)
    match a with
    | 0 => exact Nat.zero_add _
    | 1 => exact Nat.add_zero _
    | 2 => exact Nat.zero_add _

/-- The gathered entries' sum, -/
theorem red0_eq (h : S1024x100000.ShapeCasts S102400000) (hA : ∀ j, (A1 j).toNat < 100000) (j : S_.Idx) :
    red0 (F := Ideal) (oVal (F := Ideal) (shapeCast S102400000 x h) A1) j = ∑ b : Fin 1024, x (ix2 b ⟨(A1 (ix1 b)).toNat, hA _⟩) := by
  unfold red0
  refine (sum_row _ 0 (by norm_num) _ j).trans ?_
  rw [← sum_rows]
  refine Finset.sum_congr rfl fun w _ => Finset.sum_congr rfl fun l _ => ?_
  refine (row0_at _ A1 w l).trans ?_
  exact congrArg₂ (fun a b : EReal => a + b) (flat_at x h _ _ (hA _)) (flat_at x h _ _ (hA _))

/-- the ignored column's sum but at the ignored targets, -/
theorem red1_eq (h : S1024x100000.ShapeCasts S102400000) (j : S_.Idx) :
    red1 (F := Ideal) (oVal (F := Ideal) (shapeCast S102400000 x h) A1) j = ∑ b : Fin 1024, if ign (A1 (ix1 b)) then 0 else x (ix2 b ⟨99900, by norm_num⟩) := by
  unfold red1
  refine (sum_row _ 1 (by norm_num) _ j).trans ?_
  rw [← sum_rows]
  refine Finset.sum_congr rfl fun w _ => Finset.sum_congr rfl fun l _ => ?_
  refine (row1_at _ A1 w l).trans ?_
  exact congrArg₂ (fun a b : EReal => a + b) (if_congr Iff.rfl rfl (flat_at x h _ _ (by norm_num))) (if_congr Iff.rfl rfl (flat_at x h _ _ (by norm_num)))

/-- and the number of the ignored targets. -/
theorem red2_eq (X0 : S102400000.Idx → Ideal .f32) (j : S_.Idx) :
    red2 (F := Ideal) (oVal (F := Ideal) X0 A1) j = ∑ b : Fin 1024, if ign (A1 (ix1 b)) then 1 else 0 := by
  unfold red2
  refine (sum_row _ 2 (by norm_num) _ j).trans ?_
  rw [← sum_rows]
  refine Finset.sum_congr rfl fun w _ => Finset.sum_congr rfl fun l _ => ?_
  exact row2_at _ A1 w l

/-! ## The region's sum -/

variable (W : Dev nD → Valuation τ sig (Elt Ideal))

/-- A block's sum. -/
def bsum (c : Dev nD) (n : ℕ) : EReal := if h : n < cfg1.N then ∑ i : S160x12800.Idx, blkV (F := Ideal) W c ⟨n, h⟩ i else 0

theorem pay1_zero (j : S1x1.Idx) : k1_pay1 (F := Ideal) j = (0 : EReal) := Ideal.ofBits_zero_f32

theorem pay2_sum (y : Vec Ideal S1x1 .f32) (v : Vec Ideal S160x12800 .f32) (j : S1x1.Idx) :
    k1_pay2 (F := Ideal) y v j = (y j + ∑ i : S160x12800.Idx, v i : EReal) := by
  unfold k1_pay2
  simp only [shapeCast_self]
  refine congrArg (fun z : EReal => (y j : EReal) + z) ?_
  refine (show ∀ u : FVec Ideal S1 .f32, (∀ k, u k = (∑ i : S160x12800.Idx, v i : EReal)) →
    (broadcast S1x1 (extractAt ![0, 0, 0] (shapeCast S1x1x1 u shapeCasts_S1_S1x1x1) inpos_S1x1x1_p0_0_0) j : EReal) = ∑ i : S160x12800.Idx, v i from
      fun u hu => hu _) _ fun k => ?_
  refine (Ideal.multiReduction_add_total _ _ _ (fun b => by fin_cases b; rfl) _ _ k).trans ?_
  exact sum_shapeCast v _

theorem acc_at (c : Dev nD) (j : S1x1.Idx) : ∀ (n : ℕ) (h : n < cfg1.N), acc (F := Ideal) W c n h j = (∑ k ∈ Finset.range (n + 1), bsum W c k : EReal)
  | 0, h => by
    unfold acc step
    rw [if_pos (coords_val _), pay2_sum, pay1_zero, zero_add, Finset.sum_range_one]
    unfold bsum
    rw [dif_pos h]
  | n + 1, h => by
    unfold acc step
    rw [if_neg (by rw [coords_val]; exact Nat.succ_ne_zero n), pay2_sum, acc_at c j n _, Finset.sum_range_succ _ (n + 1)]
    refine congrArg (fun z : EReal => _ + z) ?_
    unfold bsum
    rw [dif_pos h]

/-- A block, read at an index. -/
theorem blk_at (c : Dev nD) (n : ℕ) (h : n < cfg1.N) (r : Fin 160) (q : Fin 12800) (hn : n < 50) :
    blkV (F := Ideal) W c ⟨n, h⟩ (ix2 r q) = W c (bref main_v11) (ix2 (⟨160 * n + r.val, by omega⟩ : Fin 8000) q) := by
  unfold blkV
  refine congrArg (W c (bref main_v11)) (funext fun a => Fin.ext ?_)
  have h50 : ((grid1.coords ⟨n, h⟩) 0).val = n := coords_val ⟨n, h⟩
  match a with
  | 0 =>
    show cc1_transform_0 (grid1.coords ⟨n, h⟩) 0 * 160 + 1 * r.val = 160 * n + r.val
    have : cc1_transform_0 (grid1.coords ⟨n, h⟩) 0 = n := by
      unfold cc1_transform_0
      show (BitVec.ofNat 32 ((grid1.coords ⟨n, h⟩) 0).val).toNat = n
      rw [h50, BitVec.toNat_ofNat]
      omega
    rw [this]
    ring
  | 1 =>
    show 0 * 12800 + 1 * q.val = q.val
    omega

/-- The table as the region finds it. -/
def tab (c : Dev nD) : S8000x12800.Idx → EReal := W c (bref main_v11)

theorem acc_total (c : Dev nD) (j : S1x1.Idx) : acc (F := Ideal) W c 49 N_lt j = (∑ i : S8000x12800.Idx, tab W c i : EReal) := by
  refine (acc_at W c j 49 N_lt).trans ?_
  rw [← Fin.sum_univ_eq_sum_range (bsum W c) 50, ValueIdx.sum_idx2 (tab W c)]
  rw [← sum_groups 50 160 8000 (by norm_num) (fun R : Fin 8000 => ∑ q : Fin 12800, tab W c (ix2 R q)) (fun a b => ⟨160 * a.val + b.val, by omega⟩) (fun _ _ => rfl)]
  refine Finset.sum_congr rfl fun a _ => ?_
  have ha : a.val < cfg1.N := a.isLt
  unfold bsum
  rw [dif_pos ha]
  refine (ValueIdx.sum_idx2 (M := EReal) (n0 := 160) (n1 := 12800) (blkV (F := Ideal) W c ⟨a.val, ha⟩)).trans ?_
  exact Finset.sum_congr rfl fun r _ => Finset.sum_congr rfl fun q _ => blk_at W c a.val ha r q a.isLt

end Cert.Proof.K

end
-- ==== Proof.RefProb.lean ====
/-
  The reference's table of model probabilities: `conf` at a row's own target, `0` at the ignored label elsewhere, the
  smoothing value everywhere else. The reference builds it by two scatters that set and a mask; here it is read at an
  index.
-/
module

public import proofs.«01_k».proof.Proof.Gen.ReferenceIdeal.Run
public import Idealize.ShloMosaic.Lib.Routing.OpsOne
public import Idealize.ShloMosaic.Lib.Routing.OpsSet
public import Idealize.ShloMosaic.Lib.Pointwise
public import Idealize.ShloMosaic.Lib.IdealHost

@[expose] public section

noncomputable section

namespace Cert.Proof.Ref

open Cert.ReferenceIdeal Cert.ReferenceIdeal.Gen Cert.ReferenceIdeal.Value
open Idealize.ShloMosaic hiding ix0 ix1 ix2 ix3
open Idealize.ShloMosaic.ValueIdx Idealize.ShloMosaic.Routing
open Idealize.SL.Sem

variable {F : FTy → Type} [FloatOps F]

/-- The smoothing row: `s` everywhere but at the ignored label. -/
def smooth : FVec F S100000 .f32 :=
  Host.scatter scatter_S100000_S1_S__n_0_0_0 (fun _ b => b) (broadcastInDim S100000 ![] bcast_S_S100000 (constant S_ .f32 0x3586386D#32)) (broadcastInDim S1 ![] bcast_S_S1 (constantI S_ 32 99900#32)) (constant S_ .f32 0x00000000#32)

/-- The row repeated over the batch. -/
def tiled : FVec F S1024x100000 .f32 :=
  shapeCast _ (broadcastInDim S1024x1x1x100000 ![0, 1, 2, 3] bcast_S1x1x1x100000_S1024x1x1x100000_0_1_2_3 (shapeCast _ (broadcastInDim S1x100000 ![1] bcast_S100000_S1x100000_1 (smooth (F := F))) shapeCasts_S1x100000_S1x1x1x100000)) shapeCasts_S1024x1x1x100000_S1024x100000

/-- The row numbers as the index pairs' first components, a negative one wrapped. -/
def rowIx : IVec S1024 32 :=
  select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)

/-- The targets as the pairs' second components, a negative one wrapped. -/
def colIx (t : IVec S1024 32) : IVec S1024 32 :=
  select (cmpi .slt t (broadcastInDim S1024 ![] bcast_S_S1024 (constantI S_ 32 0#32))) (addi t (broadcastInDim S1024 ![] bcast_S_S1024 (constantI S_ 32 100000#32))) t

/-- The index pairs. -/
def pairs (t : IVec S1024 32) : IVec S1024x2 32 :=
  concatenate S1024x2 1 [⟨S1024x1, (broadcastInDim S1024x1 ![0] bcast_S1024_S1024x1_0 rowIx)⟩, ⟨S1024x1, (broadcastInDim S1024x1 ![0] bcast_S1024_S1024x1_0 (colIx t))⟩] concatenates_S1024x1_S1024x1_S1024x2_d1

/-- The probabilities before the mask. -/
def prob0 (t : IVec S1024 32) : FVec F S1024x100000 .f32 :=
  Host.scatter scatter_S1024x100000_S1024x2_S1024_n_01_01_1 (fun _ b => b) (tiled (F := F)) (pairs t) (broadcastInDim S1024 ![] bcast_S_S1024 (constant S_ .f32 0x3F666666#32))

/-- The probabilities. -/
def prob (t : IVec S1024 32) : FVec F S1024x100000 .f32 :=
  select (broadcastInDim S1024x100000 ![0, 1] bcast_S1024x1_S1024x100000_0_1 (broadcastInDim S1024x1 ![0] bcast_S1024_S1024x1_0 (cmpi .eq t (broadcastInDim S1024 ![] bcast_S_S1024 (constantI S_ 32 4294967196#32))))) (broadcastInDim S1024x100000 ![] bcast_S_S1024x100000 (id (constant S_ .f32 0x00000000#32))) (prob0 t)

/-- The summand: `p log p - p x`. -/
def summand (x : FVec F S1024x100000 .f32) (p : FVec F S1024x100000 .f32) : FVec F S1024x100000 .f32 :=
  subf (select (cmpf .ogt p (broadcastInDim S1024x100000 ![] bcast_S_S1024x100000 (constant S_ .f32 0x00000000#32)))
      (mulf p (Host.log (select (cmpf .ogt p (broadcastInDim S1024x100000 ![] bcast_S_S1024x100000 (constant S_ .f32 0x00000000#32))) p (broadcastInDim S1024x100000 ![] bcast_S_S1024x100000 (id (constant S_ .f32 0x3F800000#32))))))
      (broadcastInDim S1024x100000 ![] bcast_S_S1024x100000 (id (constant S_ .f32 0x00000000#32))))
    (mulf p x)

/-- The reference's result is the sum of the summands. -/
theorem res_eq (m : (ℓ : Loc nD τ sig) → Buf (Elt F) ℓ) (c : Dev nD) :
    res_main_v37 m c = Host.reduceAdd (summand (m ((c.tc : Thread nD τ).loc main_arg0)) (prob (m ((c.tc : Thread nD τ).loc main_arg1)))) (constant S_ .f32 0x00000000#32) reducesTo_S1024x100000_S_d0_1 h_S_ := rfl

/-- The smoothing row at a label. -/
theorem smooth_at (v : Fin 100000) : (smooth (F := F)) (ix1 v) = if v.val = 99900 then FloatOps.ofBits .f32 0x00000000#32 else FloatOps.ofBits .f32 0x3586386D#32 := by
  have hl := fun e => lands_one (N := 100000) scatter_S100000_S1_S__n_0_0_0 rfl rfl (broadcastInDim S1 ![] bcast_S_S1 (constantI S_ 32 99900#32)) ⟨99900, by decide⟩ (by decide) e
  unfold smooth
  by_cases h : v.val = 99900
  · rw [if_pos h]
    exact scatter_set_hit _ _ _ _ _ _ (fun j _ => rfl) ix0 ((hl v).2 (Fin.ext h))
  · rw [if_neg h]
    exact scatter_set_miss _ _ _ _ _ fun j hj => h (congrArg Fin.val ((hl v).1 (by rw [← eq_ix0 j]; exact hj)))

/-- Every row of the tiled table is the smoothing row. -/
theorem tiled_at (b : Fin 1024) (v : Fin 100000) : (tiled (F := F)) (ix2 b v) = smooth (F := F) (ix1 v) := by
  unfold tiled
  pointwise
  exact congrArg (smooth (F := F)) (ValueIdx.eq_ix1 _)

/-- A word below `2 ^ 31` is not negative, so the wrap leaves it. -/
theorem wrap_id (w n : BitVec 32) (h : w.toNat < 2 ^ 31) : Scalar.select (IntOp.cmpi CmpIPredicate.slt w 0#32) (IntOp.addi w n) w = w := by
  have : IntOp.cmpi CmpIPredicate.slt w 0#32 = 0#1 := by
    have hlt : w.slt 0#32 = false := by
      rw [BitVec.slt_eq_decide, BitVec.toInt_eq_toNat_of_lt (by omega)]
      exact decide_eq_false (by simp)
    simp [IntOp.cmpi, hlt]
  rw [this]
  rfl

/-- The pair's first component is the row. -/
theorem pairs_row (t : IVec S1024 32) (b : Fin 1024) : (pairs t (ix2 b 0)).toInt = b.val := by
  unfold pairs rowIx
  pointwise
  have hb : (BitVec.ofNat 32 b.val).toNat = b.val := by rw [BitVec.toNat_ofNat]; have := b.isLt; omega
  refine (congrArg BitVec.toInt (wrap_id (BitVec.ofNat 32 b.val) _ (by rw [hb]; have := b.isLt; omega))).trans ?_
  rw [BitVec.toInt_eq_toNat_of_lt (by rw [hb]; have := b.isLt; omega), hb]

/-- The pair's second component is the target. -/
theorem pairs_col (t : IVec S1024 32) (b : Fin 1024) (h : (t (ix1 b)).toNat < 100000) : (pairs t (ix2 b 1)).toInt = ((t (ix1 b)).toNat : Int) := by
  unfold pairs colIx
  pointwise
  have e : (t (Idealize.ShloMosaic.ix1 (ix2 b (1 : Fin 2) 0))) = t (ix1 b) := congrArg t (ValueIdx.eq_ix1 _)
  rw [e, wrap_id _ _ (by omega), BitVec.toInt_eq_toNat_of_lt (by omega)]

/-- Update `a` of the scatter by pairs lands at `(r, c)` exactly when its words, read signed, are `r` and `c`. -/
theorem lands_pair {R C A w : Nat} (d : ScatterDims (shape2 R C) (shape2 A 2) (shape1 A)) (hiw : d.insertedWindowDims = [0, 1])
    (hsd : d.scatterDimsToOperandDims = [0, 1]) (hivd : d.indexVectorDim = 1) (idx : IVec (shape2 A 2) w) (a : Fin A) (r : Fin R) (c : Fin C) :
    d.resultIdx? (ix1 a) idx = some (ix2 r c) ↔ (idx (ix2 a 0)).toInt = r.val ∧ (idx (ix2 a 1)).toInt = c.val := by
  have hm : ∀ q : Fin 2, q ∈ d.scatterDimsToOperandDims := fun q => by rw [hsd]; fin_cases q <;> simp
  have hw0 : ∀ q : Fin 2, d.window (ix1 a) q = 0 := fun q => by
    unfold ScatterDims.window
    rw [dif_neg fun h => (of_decide_eq_true (List.mem_filter.1 h).2) (by rw [hiw]; fin_cases q <;> simp)]
  have hs : ∀ q : Fin 2, d.start (ix1 a) idx q = (idx (ix2 a q)).toInt := fun q => by
    unfold ScatterDims.start
    rw [dif_pos (hm q)]
    congr 2
    funext k
    apply Fin.ext
    unfold ScatterDims.siIdx
    match k with
    | ⟨0, _⟩ =>
      rw [dif_neg (by rw [hivd]; exact (by decide : (0 : ℕ) ≠ 1))]
      unfold ScatterDims.siCoord
      exact congrArg (fun j : Fin 1 => (ix1 a j).val) (Subsingleton.elim _ 0)
    | ⟨1, _⟩ =>
      rw [dif_pos (by rw [hivd])]
      show List.idxOf q d.scatterDimsToOperandDims = q.val
      rw [hsd]
      fin_cases q <;> rfl
  rw [resultIdx?_ix2, hs, hs, hw0, hw0]
  simp

/-- The probability before the mask, at an index. -/
theorem prob0_at (t : IVec S1024 32) (ht : ∀ b : Fin 1024, (t (ix1 b)).toNat < 100000) (b : Fin 1024) (v : Fin 100000) :
    (prob0 (F := F) t) (ix2 b v) = if v.val = (t (ix1 b)).toNat then FloatOps.ofBits .f32 0x3F666666#32 else smooth (F := F) (ix1 v) := by
  have hl := fun a => lands_pair (R := 1024) (C := 100000) (A := 1024) scatter_S1024x100000_S1024x2_S1024_n_01_01_1 rfl rfl rfl (pairs t) a b v
  unfold prob0
  by_cases h : v.val = (t (ix1 b)).toNat
  · rw [if_pos h]
    exact scatter_set_hit _ _ _ _ _ _ (fun j _ => rfl) (ix1 b) ((hl b).2 ⟨pairs_row t b, by rw [pairs_col t b (ht b), h]⟩)
  · rw [if_neg h, ← tiled_at b v]
    refine scatter_set_miss _ _ _ _ _ fun j hj => ?_
    obtain ⟨a, rfl⟩ : ∃ a : Fin 1024, j = ix1 a := ⟨j 0, ValueIdx.eq_ix1 j⟩
    obtain ⟨h0, h1⟩ := (hl a).1 hj
    rw [pairs_row] at h0
    have hb : a = b := Fin.ext (by exact_mod_cast h0)
    rw [pairs_col t a (ht _), hb] at h1
    exact h (by exact_mod_cast h1.symm)

/-- No row is masked: a target in range is not the word of `-100`. -/
theorem prob_at (t : IVec S1024 32) (ht : ∀ b : Fin 1024, (t (ix1 b)).toNat < 100000) (b : Fin 1024) (v : Fin 100000) :
    (prob (F := F) t) (ix2 b v) = if v.val = (t (ix1 b)).toNat then FloatOps.ofBits .f32 0x3F666666#32 else
      if v.val = 99900 then FloatOps.ofBits .f32 0x00000000#32 else FloatOps.ofBits .f32 0x3586386D#32 := by
  rw [← smooth_at v, ← prob0_at t ht b v]
  unfold prob
  have e : (broadcastInDim S1024x100000 ![0, 1] bcast_S1024x1_S1024x100000_0_1 (broadcastInDim S1024x1 ![0] bcast_S1024_S1024x1_0 (cmpi .eq t (broadcastInDim S1024 ![] bcast_S_S1024 (constantI S_ 32 4294967196#32))))) (ix2 b v) = 0#1 := by
    pointwise
    have hne : ∀ j : S1024.Idx, t j ≠ 4294967196#32 := fun j h => by
      obtain ⟨a, rfl⟩ : ∃ a : Fin 1024, j = ix1 a := ⟨j 0, ValueIdx.eq_ix1 j⟩
      have := ht a
      rw [h] at this
      exact absurd this (by decide)
    show BitVec.ofBool (t _ == 4294967196#32) = 0#1
    rw [beq_false_of_ne (hne _)]
    rfl
  show Scalar.select _ _ _ = _
  rw [e]
  rfl

end Cert.Proof.Ref

end
-- ==== Proof.Consts.lean ====
/-
  The programs' float literals as real numbers.
-/
module

public import Idealize.ShloMosaic.PureOps.Ideal
public import Idealize.ShloMosaic.Lib.IdealHost

@[expose] public section

noncomputable section

namespace Cert.Proof

open Idealize.ShloMosaic

/-- The confidence: the real the float nearest `0.9` stands for. -/
def conf : ℝ := 15099494 / 16777216
/-- The smoothing value: the real the float nearest `0.1 / 99998` stands for. -/
def smo : ℝ := 8796269 / 8796093022208

theorem conf_pos : 0 < conf := by unfold conf; norm_num
theorem smo_pos : 0 < smo := by unfold smo; norm_num

theorem lit_conf : Ideal.ofBits .f32 0x3F666666#32 = (conf : EReal) := by
  simp [Ideal.ofBits, Ideal.ieee, conf, -EReal.coe_mul]; norm_num
theorem lit_smo : Ideal.ofBits .f32 0x3586386D#32 = (smo : EReal) := by
  simp [Ideal.ofBits, Ideal.ieee, smo, -EReal.coe_mul]; norm_num
/-- `1024` times the confidence is a float. -/
theorem lit_conf1024 : Ideal.ofBits .f32 0x44666666#32 = ((1024 * conf : ℝ) : EReal) := by
  simp [Ideal.ofBits, Ideal.ieee, conf, -EReal.coe_mul]; norm_num
/-- `1024 * 99998` is a float. -/
theorem lit_count : Ideal.ofBits .f32 0x4CC34F00#32 = ((102397952 : ℝ) : EReal) := by
  simp [Ideal.ofBits, Ideal.ieee, -EReal.coe_mul]; norm_num

/-- The logarithm of a positive real. -/
theorem log_coe {x : ℝ} (h : 0 < x) : Ideal.log (x : EReal) = (Real.log x : EReal) := by
  show (if x ≤ 0 then (⊥ : EReal) else (Real.log x : EReal)) = _
  rw [if_neg (not_le.2 h)]

/-- A finite sum of reals, taken among the extended reals. -/
theorem coe_fsum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Proof

end
-- ==== Proof.RefValue.lean ====
/-
  What the reference computes over exact arithmetic: the sum over the batch and the vocabulary of `p log p - p x`, the
  probabilities real numbers.
-/
module

public import proofs.«01_k».proof.Proof.RefProb
public import proofs.«01_k».proof.Proof.Consts

@[expose] public section

noncomputable section

namespace Cert.Proof.Ref

open Cert.ReferenceIdeal Cert.ReferenceIdeal.Gen Cert.ReferenceIdeal.Value
open Idealize.ShloMosaic hiding ix0 ix1 ix2 ix3
open Idealize.ShloMosaic.ValueIdx
open Idealize.SL.Sem

/-- The probability of label `v` in a row whose target is `t`. -/
def pr (t v : ℕ) : ℝ := if v = t then conf else if v = 99900 then 0 else smo

theorem pr_nonneg (t v : ℕ) : 0 ≤ pr t v := by
  unfold pr; split_ifs
  · exact conf_pos.le
  · exact le_rfl
  · exact smo_pos.le

/-- The reference's probabilities are these. -/
theorem prob_ideal (t : IVec S1024 32) (ht : ∀ b : Fin 1024, (t (ix1 b)).toNat < 100000) (b : Fin 1024) (v : Fin 100000) :
    prob (F := Ideal) t (ix2 b v) = (pr (t (ix1 b)).toNat v.val : EReal) := by
  rw [prob_at t ht b v]
  unfold pr
  split_ifs
  · exact lit_conf
  · exact Ideal.ofBits_zero_f32
  · exact lit_smo

/-- One summand: `p log p - p x` where `p` is positive, and `0` where it is zero (`Real.log 0` is `0`). -/
theorem summand_ideal (x p : FVec Ideal S1024x100000 .f32) (j : S1024x100000.Idx) (q y : ℝ) (hq : 0 ≤ q) (hp : p j = (q : EReal)) (hx : x j = (y : EReal)) :
    summand (F := Ideal) x p j = ((q * Real.log q - q * y : ℝ) : EReal) := by
  unfold summand
  show (Scalar.select (Ideal.cmp .ogt (p j) (Ideal.ofBits .f32 0x00000000#32))
    (p j * Ideal.log (Scalar.select (Ideal.cmp .ogt (p j) (Ideal.ofBits .f32 0x00000000#32)) (p j) (Ideal.ofBits .f32 0x3F800000#32)))
    (Ideal.ofBits .f32 0x00000000#32) : EReal) - p j * x j = _
  rw [hp, hx, Ideal.ofBits_zero_f32, Ideal.ofBits_one_f32]
  rcases hq.eq_or_lt with h | h
  · subst h
    have : Ideal.cmp .ogt ((0 : ℝ) : EReal) 0 = 0#1 := by simp [Ideal.cmp]
    rw [this]
    simp [Scalar.select]
  · have : Ideal.cmp .ogt (q : EReal) 0 = 1#1 := by
      have h' : (0 : EReal) < (q : EReal) := by exact_mod_cast h
      simp [Ideal.cmp, h']
    rw [this]
    show (q : EReal) * Ideal.log (q : EReal) - (q : EReal) * (y : EReal) = _
    rw [log_coe h]
    norm_cast

/-- The reference's result. -/
theorem res_ideal (m : (ℓ : Loc nD τ sig) → Buf (Elt Ideal) ℓ) (c : Dev nD) (X : Fin 1024 → Fin 100000 → ℝ) (T : Fin 1024 → ℕ)
    (hX : ∀ b v, m ((c.tc : Thread nD τ).loc main_arg0) (ix2 b v) = (X b v : EReal))
    (hT : ∀ b, (m ((c.tc : Thread nD τ).loc main_arg1) (ix1 b)).toNat = T b) (hT' : ∀ b, T b < 100000) (j : S_.Idx) :
    res_main_v37 m c j = ((∑ b : Fin 1024, ∑ v : Fin 100000, (pr (T b) v.val * Real.log (pr (T b) v.val) - pr (T b) v.val * X b v) : ℝ) : EReal) := by
  rw [res_eq]
  refine (Ideal.hostReduceAdd_total reducesTo_S1024x100000_S_d0_1 (fun b => b.elim0) _ _ j).trans ?_
  have h0 : (constant S_ .f32 0x00000000#32 : FVec Ideal S_ .f32) (Shape.Idx.first h_S_) = (0 : EReal) := Ideal.ofBits_zero_f32
  rw [h0, zero_add]
  have e : ∀ i : S1024x100000.Idx, summand (F := Ideal) (m ((c.tc : Thread nD τ).loc main_arg0)) (prob (m ((c.tc : Thread nD τ).loc main_arg1))) i
      = ((pr (T (i 0)) (i 1).val * Real.log (pr (T (i 0)) (i 1).val) - pr (T (i 0)) (i 1).val * X (i 0) (i 1) : ℝ) : EReal) := fun i => by
    obtain ⟨b, v, rfl⟩ : ∃ (b : Fin 1024) (v : Fin 100000), i = ix2 b v := ⟨i 0, i 1, ValueIdx.eq_ix2 i⟩
    refine summand_ideal _ _ _ _ _ (pr_nonneg _ _) ?_ (hX b v)
    rw [prob_ideal _ (fun b => by rw [hT]; exact hT' b), hT]
  rw [Finset.sum_congr rfl fun i _ => e i, ValueIdx.sum_idx2]
  rw [coe_fsum]
  refine Finset.sum_congr rfl fun b _ => ?_
  rw [coe_fsum]

end Cert.Proof.Ref

end
-- ==== Proof.RealEq.lean ====
/- The two formulas for the loss, over the reals: by entries, and from the three sums. -/
module

public import proofs.«01_k».proof.Proof.RefValue

@[expose] public section

noncomputable section

namespace Cert.Proof

open Cert.Proof.Ref

/-- One row. -/
theorem row_eq (t : Fin 100000) (y : Fin 100000 → ℝ) :
    ∑ v : Fin 100000, (pr t.val v.val * Real.log (pr t.val v.val) - pr t.val v.val * y v)
      = (conf * Real.log conf + smo * Real.log smo * (99998 + if t.val = 99900 then 1 else 0))
        - ((smo * ∑ v, y v + (conf - smo) * y t) - smo * (if t.val = 99900 then 0 else y ⟨99900, by norm_num⟩)) := by
  have key : ∀ v : Fin 100000, pr t.val v.val * Real.log (pr t.val v.val) - pr t.val v.val * y v
      = (smo * Real.log smo - smo * y v)
        + (if v = t then (conf * Real.log conf - conf * y v) - (smo * Real.log smo - smo * y v) else 0)
        + (if v = (⟨99900, by norm_num⟩ : Fin 100000) then (if t.val = 99900 then 0 else -(smo * Real.log smo - smo * y v)) else 0) := by
    intro v
    have e1 : (v.val = t.val) ↔ v = t := Fin.ext_iff.symm
    have e2 : (v.val = 99900) ↔ v = (⟨99900, by norm_num⟩ : Fin 100000) := (Fin.ext_iff (b := (⟨99900, by norm_num⟩ : Fin 100000))).symm
    unfold pr
    by_cases h1 : v = t
    · subst h1
      by_cases h2 : v.val = 99900
      · simp [h2]
      · have h2' : ¬ v = (⟨99900, by norm_num⟩ : Fin 100000) := fun h => h2 (e2.2 h)
        rw [if_pos rfl, if_pos rfl, if_neg h2']
        ring
    · have h1' : ¬ v.val = t.val := fun h => h1 (e1.1 h)
      by_cases h2 : v.val = 99900
      · have h3 : ¬ t.val = 99900 := fun h => h1' (h2.trans h.symm)
        have h2' := e2.1 h2
        rw [if_neg h1', if_pos h2, if_neg h1, if_pos h2', if_neg h3]
        simp
      · have h2' : ¬ v = (⟨99900, by norm_num⟩ : Fin 100000) := fun h => h2 (e2.2 h)
        rw [if_neg h1', if_neg h2, if_neg h1, if_neg h2']
        ring
  rw [Finset.sum_congr rfl fun v _ => key v, Finset.sum_add_distrib, Finset.sum_add_distrib, Finset.sum_ite_eq' Finset.univ t, Finset.sum_ite_eq' Finset.univ (⟨99900, by norm_num⟩ : Fin 100000),
    if_pos (Finset.mem_univ _), if_pos (Finset.mem_univ _), Finset.sum_sub_distrib, Finset.sum_const, ← Finset.mul_sum, Finset.card_univ, Fintype.card_fin, nsmul_eq_mul]
  split_ifs <;> push_cast <;> ring

/-- The whole. -/
theorem loss_eq (T : Fin 1024 → Fin 100000) (X : Fin 1024 → Fin 100000 → ℝ) :
    ∑ b : Fin 1024, ∑ v : Fin 100000, (pr (T b).val v.val * Real.log (pr (T b).val v.val) - pr (T b).val v.val * X b v)
      = ((1024 * conf) * Real.log conf + smo * Real.log smo * (102397952 + ∑ b, if (T b).val = 99900 then (1 : ℝ) else 0))
        - ((smo * ∑ b, ∑ v, X b v + (conf - smo) * ∑ b, X b (T b)) - smo * ∑ b, if (T b).val = 99900 then 0 else X b ⟨99900, by norm_num⟩) := by
  rw [Finset.sum_congr rfl fun b _ => row_eq (T b) (X b)]
  simp only [Finset.sum_sub_distrib, Finset.sum_add_distrib, Finset.sum_const, ← Finset.mul_sum, mul_add, Finset.card_univ, Fintype.card_fin, nsmul_eq_mul]
  push_cast
  ring

end Cert.Proof

end
-- ==== Proof.Value.lean ====
/- The kernel's result over the extended reals is the reference's. -/
module

public import proofs.«01_k».proof.Proof.Sums
public import proofs.«01_k».proof.Proof.RealEq
public import proofs.«01_k».proof.Proof.Frames

@[expose] public section

noncomputable section

namespace Cert.Proof.K

open Cert.KernelIdeal Cert.KernelIdeal.Gen
open Idealize.ShloMosaic
open Idealize.SL.Sem

theorem ign_iff (t : BitVec 32) : ign t ↔ t.toNat = 99900 := by
  unfold ign
  constructor
  · intro h; rw [h]; rfl
  · intro h; exact BitVec.eq_of_toNat_eq h

/-- The host's formula at four reals. -/
theorem outV_real (g h n : (⟨S_, .f32⟩ : BufTy).Contents (Elt Ideal)) (s : (⟨S1x1, .f32⟩ : BufTy).Contents (Elt Ideal)) (G H N Z : ℝ)
    (hg : ∀ j, g j = (G : EReal)) (hh : ∀ j, h j = (H : EReal)) (hn : ∀ j, n j = (N : EReal)) (hs : ∀ j, s j = (Z : EReal)) (j : S_.Idx) :
    outV (F := Ideal) g h n s j = ((((1024 * conf) * Real.log conf + smo * Real.log smo * (102397952 + N)) - ((smo * Z + (conf - smo) * G) - smo * H) : ℝ) : EReal) := by
  have e : outV (F := Ideal) g h n s j
      = ((Ideal.ofBits .f32 0x44666666#32 * Ideal.log (Ideal.ofBits .f32 0x3F666666#32) + (Ideal.ofBits .f32 0x3586386D#32 * Ideal.log (Ideal.ofBits .f32 0x3586386D#32)) * (Ideal.ofBits .f32 0x4CC34F00#32 + n j))
        - ((Ideal.ofBits .f32 0x3586386D#32 * shapeCast (α := EReal) S_ s shapeCasts_S1x1_S_ j + (Ideal.ofBits .f32 0x3F666666#32 - Ideal.ofBits .f32 0x3586386D#32) * g j) - Ideal.ofBits .f32 0x3586386D#32 * h j) : EReal) := rfl
  have hz : shapeCast (α := EReal) S_ s shapeCasts_S1x1_S_ j = (Z : EReal) := hs (Shape.reshapeEquiv shapeCasts_S1x1_S_ j)
  rw [e, hz, hg, hh, hn, lit_conf1024, lit_conf, lit_smo, lit_count, log_coe conf_pos, log_coe smo_pos]
  push_cast
  rfl

variable (m : (ℓ : Loc nD τ sig) → Buf (Elt Ideal) ℓ)

/-- The result, when the logits are reals and the targets columns. -/
theorem out_real (d : Dev nD) (X : Fin 1024 → Fin 100000 → ℝ) (T : Fin 1024 → Fin 100000)
    (hX : ∀ b v, (m (xLoc d) : S1024x100000.Idx → EReal) (ValueIdx.ix2 b v) = (X b v : EReal))
    (hA : ∀ j, (A1 m d j).toNat < 100000) (hT : ∀ b, (A1 m d (ValueIdx.ix1 b)).toNat = (T b).val) (j : S_.Idx) :
    (W5 m d (bref main_v27) : S_.Idx → EReal) j
      = ((∑ b : Fin 1024, ∑ v : Fin 100000, (Ref.pr (T b).val v.val * Real.log (Ref.pr (T b).val v.val) - Ref.pr (T b).val v.val * X b v) : ℝ) : EReal) := by
  rw [W5_v27, loss_eq]
  have hi : ∀ b, ign (A1 m d (ValueIdx.ix1 b)) ↔ (T b).val = 99900 := fun b => by rw [ign_iff, hT]
  refine outV_real _ _ _ _ _ _ _ _ (fun j => ?_) (fun j => ?_) (fun j => ?_) (fun j => ?_) j
  · rw [X0_eq]
    refine (red0_eq _ _ _ hA j).trans ?_
    rw [coe_fsum]
    refine Finset.sum_congr rfl fun b _ => ?_
    rw [show (⟨(A1 m d (ValueIdx.ix1 b)).toNat, hA _⟩ : Fin 100000) = T b from Fin.ext (hT b)]
    exact hX b _
  · rw [X0_eq]
    refine (red1_eq _ _ _ j).trans ?_
    rw [coe_fsum]
    refine Finset.sum_congr rfl fun b _ => ?_
    by_cases h : (T b).val = 99900
    · rw [if_pos ((hi b).2 h), if_pos h]; rfl
    · rw [if_neg (fun c => h ((hi b).1 c)), if_neg h]; exact hX b _
  · refine (red2_eq _ _ j).trans ?_
    rw [coe_fsum]
    refine Finset.sum_congr rfl fun b _ => ?_
    by_cases h : (T b).val = 99900
    · rw [if_pos ((hi b).2 h), if_pos h]; rfl
    · rw [if_neg (fun c => h ((hi b).1 c)), if_neg h]; rfl
  · refine (acc_total (W3 m) d j).trans ?_
    have ht : tab (W3 m) d = shapeCast (α := EReal) S8000x12800 (m (xLoc d) : (⟨S1024x100000, .f32⟩ : BufTy).Contents (Elt Ideal)) shapeCasts_S1024x100000_S8000x12800 := W3_v11 m d
    rw [ht]
    refine (sum_shapeCast _ _).trans ?_
    refine (ValueIdx.sum_idx2 (M := EReal) (n0 := 1024) (n1 := 100000) _).trans ?_
    rw [coe_fsum]
    refine Finset.sum_congr rfl fun b _ => ?_
    rw [coe_fsum]
    exact Finset.sum_congr rfl fun v _ => hX b v

end Cert.Proof.K

namespace Cert.Proof

open Idealize.ShloMosaic Idealize.SL.Sem

theorem algebraic : Cert.algebraic_KernelIdeal_ReferenceIdeal_pre_in_range_finite := by
  intro m ρ m' ρ' hp hagree
  have hA : ∀ d j, (K.A1 m d j).toNat < 100000 := fun d j => PreP.range_of' (F := Ideal) _ _ (hp d) j
  have hR := fun d j => PreP.real_of _ _ (hp d) j
  have hv : ∀ c, Cert.ReferenceIdeal.Value.res_main_v37 (F := Ideal) m' c = K.W5 (F := Ideal) m c (K.bref Cert.KernelIdeal.main_v27) := by
    intro c
    choose r hr using hR c
    funext j
    have hx := (hagree c).1
    have ht := (hagree c).2
    refine (Ref.res_ideal m' c (fun b v => r (ValueIdx.ix2 b v)) (fun b => (K.A1 m c (ValueIdx.ix1 b)).toNat) (fun b v => ?_) (fun b => ?_) (fun b => hA c _) j).trans
      (K.out_real m c (fun b v => r (ValueIdx.ix2 b v)) (fun b => ⟨(K.A1 m c (ValueIdx.ix1 b)).toNat, hA c _⟩) (fun b v => hr _) (hA c) (fun _ => rfl) j).symm
    · rw [hx]; exact hr _
    · rw [ht]; rfl
  refine ⟨fun c => K.W5 (F := Ideal) m c (K.bref Cert.KernelIdeal.main_v27), ?_, ?_⟩
  · exact (θ_run Cert.KernelIdeal.defs _ _).mono (fun _ h c => h.1 c) (K.run_main (F := Ideal) m ρ hA)
  · exact (θ_run Cert.ReferenceIdeal.defs _ _).mono (fun _ h c => ⟨(h c).1.trans (hv c), (h c).2⟩) (Cert.ReferenceIdeal.Value.run (F := Ideal) m' ρ')

end Cert.Proof

end
-- ==== Proof.lean ====
/- Every claim of the certificate: the frames, that no rule was applied, and that the kernel's result is the reference's. -/
module

public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, PreP.factsR, PreP.factsF,
    frame_kernel, frame_kernelIdeal, frame_kernelIdeal_finite, frame_reference, frame_reference_finite, trivial, algebraic⟩

end Cert.Proof

end
